-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_damping_positive [hPre_damping_positive : Cert.Pre_damping_positive.Facts] (m : (ℓ : Loc Cert.KernelIdeal.nD Cert.KernelIdeal.τ Cert.KernelIdeal.sig) → Buf (Elt Ideal) ℓ) : Prop :=
  ∀ c : Dev Cert.KernelIdeal.nD,
    (Cert.Pre_damping_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_damping_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_damping_positive [hPre_damping_positive : Cert.Pre_damping_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_damping_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_damping_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_damping_positive [hKernelIdeal : Cert.KernelIdeal.Facts] [hPre_damping_positive : Cert.Pre_damping_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_damping_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_damping_positive [hReferenceIdeal : Cert.ReferenceIdeal.Facts] [hPre_damping_positive : Cert.Pre_damping_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_damping_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_damping_positive [hKernelIdeal : Cert.KernelIdeal.Facts] [hReferenceIdeal : Cert.ReferenceIdeal.Facts] [hPre_damping_positive : Cert.Pre_damping_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_damping_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_damping_positive : Cert.Pre_damping_positive.Facts),
    quiescent_Kernel (hKernel := hKernel)
    ∧ quiescent_KernelIdeal (hKernelIdeal := hKernelIdeal)
    ∧ quiescent_KernelIdeal_pre_damping_positive (hKernelIdeal := hKernelIdeal) (hPre_damping_positive := hPre_damping_positive)
    ∧ quiescent_ReferenceIdeal (hReferenceIdeal := hReferenceIdeal)
    ∧ quiescent_ReferenceIdeal_pre_damping_positive (hReferenceIdeal := hReferenceIdeal) (hPre_damping_positive := hPre_damping_positive)
    ∧ preserves_Kernel_KernelIdeal
    ∧ algebraic_KernelIdeal_ReferenceIdeal_pre_damping_positive (hKernelIdeal := hKernelIdeal) (hReferenceIdeal := hReferenceIdeal) (hPre_damping_positive := hPre_damping_positive)
-- ==== Pre_damping_positive.lean ====
abbrev S3x4096x2048 : Shape := ⟨3, ![3, 4096, 2048]⟩
abbrev S3x4096x64 : Shape := ⟨3, ![3, 4096, 64]⟩
abbrev S3x4096 : Shape := ⟨2, ![3, 4096]⟩
abbrev S3x2048x1024 : Shape := ⟨3, ![3, 2048, 1024]⟩
abbrev S3x2048x32 : Shape := ⟨3, ![3, 2048, 32]⟩
abbrev S3x2048 : Shape := ⟨2, ![3, 2048]⟩
abbrev S_ : Shape := ⟨0, ![]⟩

class Facts : Prop where
  bcast_S_S3x4096 : S_.BroadcastsInDim S3x4096 (![] : Fin 0 → Fin S3x4096.rank)
  bcast_S_S3x2048 : S_.BroadcastsInDim S3x2048 (![] : Fin 0 → Fin S3x2048.rank)

variable [Facts]

def fn {F : FTy → Type} [FloatOps F] (main_arg0 : FVec F S3x4096x2048 .bf16) (main_arg1 : FVec F S3x4096x2048 .f32) (main_arg2 : IVec S3x4096x2048 8) (main_arg3 : FVec F S3x4096x64 .f32) (main_arg4 : FVec F S3x4096 .f32) (main_arg5 : IVec S3x2048x1024 8) (main_arg6 : FVec F S3x2048x32 .f32) (main_arg7 : FVec F S3x2048 .f32) : IVec S3x4096 1 × IVec S3x2048 1 :=
  let main_cst : FVec F S_ .f32 := constant S_ .f32 0x38D1B717#32
  let main_v0 : FVec F S3x4096 .f32 := broadcastInDim S3x4096 ![] bcast_S_S3x4096 main_cst
  let main_v1 : FVec F S3x4096 .f32 := addf main_arg4 main_v0
  let main_cst_0 : FVec F S_ .f32 := constant S_ .f32 0x00000000#32
  let main_v2 : FVec F S3x4096 .f32 := broadcastInDim S3x4096 ![] bcast_S_S3x4096 main_cst_0
  let main_v3 : IVec S3x4096 1 := cmpf .ogt main_v1 main_v2
  let main_cst_1 : FVec F S_ .f32 := constant S_ .f32 0x38D1B717#32
  let main_v4 : FVec F S3x2048 .f32 := broadcastInDim S3x2048 ![] bcast_S_S3x2048 main_cst_1
  let main_v5 : FVec F S3x2048 .f32 := addf main_arg7 main_v4
  let main_cst_2 : FVec F S_ .f32 := constant S_ .f32 0x00000000#32
  let main_v6 : FVec F S3x2048 .f32 := broadcastInDim S3x2048 ![] bcast_S_S3x2048 main_cst_2
  let main_v7 : IVec S3x2048 1 := cmpf .ogt main_v5 main_v6
  (main_v3, main_v7)
-- ==== Kernel.lean ====
abbrev S3x4096x2048 : Shape := ⟨3, ![3, 4096, 2048]⟩
abbrev S3x4096x64 : Shape := ⟨3, ![3, 4096, 64]⟩
abbrev S3x4096 : Shape := ⟨2, ![3, 4096]⟩
abbrev S3x2048x1024 : Shape := ⟨3, ![3, 2048, 1024]⟩
abbrev S3x2048x32 : Shape := ⟨3, ![3, 2048, 32]⟩
abbrev S3x2048 : Shape := ⟨2, ![3, 2048]⟩
abbrev S3x2x2048x4096 : Shape := ⟨4, ![3, 2, 2048, 4096]⟩
abbrev S1x256x512 : Shape := ⟨3, ![1, 256, 512]⟩
abbrev S1x256x64 : Shape := ⟨3, ![1, 256, 64]⟩
abbrev S1x2x512x256 : Shape := ⟨4, ![1, 2, 512, 256]⟩
abbrev S256x512 : Shape := ⟨2, ![256, 512]⟩
abbrev S512x256 : Shape := ⟨2, ![512, 256]⟩
abbrev S256x64 : Shape := ⟨2, ![256, 64]⟩
abbrev S64x256 : Shape := ⟨2, ![64, 256]⟩
abbrev S8x256 : Shape := ⟨2, ![8, 256]⟩
abbrev S8x1x256 : Shape := ⟨3, ![8, 1, 256]⟩
abbrev S8x64x256 : Shape := ⟨3, ![8, 64, 256]⟩
abbrev S1x1x512x256 : Shape := ⟨4, ![1, 1, 512, 256]⟩
abbrev S3x4096x4096 : Shape := ⟨3, ![3, 4096, 4096]⟩
abbrev S1x1024x4096 : Shape := ⟨3, ![1, 1024, 4096]⟩
abbrev S1x1024x1024 : Shape := ⟨3, ![1, 1024, 1024]⟩
abbrev S1024x4096 : Shape := ⟨2, ![1024, 4096]⟩
abbrev S1024x1024 : Shape := ⟨2, ![1024, 1024]⟩
abbrev S1x4096x1024 : Shape := ⟨3, ![1, 4096, 1024]⟩
abbrev S4096x1024 : Shape := ⟨2, ![4096, 1024]⟩
abbrev S3x2x1024x2048 : Shape := ⟨4, ![3, 2, 1024, 2048]⟩
abbrev S1x256x32 : Shape := ⟨3, ![1, 256, 32]⟩
abbrev S256x32 : Shape := ⟨2, ![256, 32]⟩
abbrev S32x256 : Shape := ⟨2, ![32, 256]⟩
abbrev S3x2048x2048 : Shape := ⟨3, ![3, 2048, 2048]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S3x4096x1 : Shape := ⟨3, ![3, 4096, 1]⟩
abbrev S1x1024x1 : Shape := ⟨3, ![1, 1024, 1]⟩
abbrev S1024x1 : Shape := ⟨2, ![1024, 1]⟩
abbrev S3x2048x1 : Shape := ⟨3, ![3, 2048, 1]⟩
abbrev S3x2048x4096 : Shape := ⟨3, ![3, 2048, 4096]⟩
abbrev S3x8x128 : Shape := ⟨3, ![3, 8, 128]⟩
abbrev S1x8x128 : Shape := ⟨3, ![1, 8, 128]⟩
abbrev S8x128 : Shape := ⟨2, ![8, 128]⟩
abbrev S128x8x8x128 : Shape := ⟨4, ![128, 8, 8, 128]⟩
abbrev S1x512x2048 : Shape := ⟨3, ![1, 512, 2048]⟩
abbrev S512x2048 : Shape := ⟨2, ![512, 2048]⟩
abbrev S64x8x16x128 : Shape := ⟨4, ![64, 8, 16, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 26
  | .vmem => 86
  | .smem => 0
  | _ => 0

abbrev bufTy : (tb : Table) → Fin (tcTables nBuf tb) → BufTy
  | .hbm, ⟨0, _⟩ => ⟨S3x4096x2048, .bf16⟩
  | .hbm, ⟨1, _⟩ => ⟨S3x4096x2048, .f32⟩
  | .hbm, ⟨2, _⟩ => ⟨S3x4096x2048, .i8⟩
  | .hbm, ⟨3, _⟩ => ⟨S3x4096x64, .f32⟩
  | .hbm, ⟨4, _⟩ => ⟨S3x4096, .f32⟩
  | .hbm, ⟨5, _⟩ => ⟨S3x2048x1024, .i8⟩
  | .hbm, ⟨6, _⟩ => ⟨S3x2048x32, .f32⟩
  | .hbm, ⟨7, _⟩ => ⟨S3x2048, .f32⟩
  | .hbm, ⟨8, _⟩ => ⟨S3x2x2048x4096, .bf16⟩
  | .hbm, ⟨9, _⟩ => ⟨S3x4096x4096, .bf16⟩
  | .hbm, ⟨10, _⟩ => ⟨S3x4096x4096, .bf16⟩
  | .hbm, ⟨11, _⟩ => ⟨S3x4096x4096, .bf16⟩
  | .hbm, ⟨12, _⟩ => ⟨S3x2x1024x2048, .bf16⟩
  | .hbm, ⟨13, _⟩ => ⟨S3x2048x2048, .bf16⟩
  | .hbm, ⟨14, _⟩ => ⟨S3x2048x2048, .bf16⟩
  | .hbm, ⟨15, _⟩ => ⟨S3x2048x2048, .bf16⟩
  | .hbm, ⟨16, _⟩ => ⟨S3x4096x1, .f32⟩
  | .hbm, ⟨17, _⟩ => ⟨S3x4096x2048, .bf16⟩
  | .hbm, ⟨18, _⟩ => ⟨S3x2048x1, .f32⟩
  | .hbm, ⟨19, _⟩ => ⟨S3x2048x4096, .bf16⟩
  | .hbm, ⟨20, _⟩ => ⟨S3x4096x2048, .bf16⟩
  | .hbm, ⟨21, _⟩ => ⟨S3x4096x2048, .f32⟩
  | .hbm, ⟨22, _⟩ => ⟨S3x8x128, .f32⟩
  | .hbm, ⟨23, _⟩ => ⟨S3x4096x2048, .f32⟩
  | .hbm, ⟨24, _⟩ => ⟨S3x8x128, .f32⟩
  | .hbm, ⟨25, _⟩ => ⟨S3x4096x2048, .f32⟩
  | .local _ .vmem, ⟨0, _⟩ => ⟨S1x256x512, .i8⟩
  | .local _ .vmem, ⟨1, _⟩ => ⟨S1x256x512, .i8⟩
  | .local _ .vmem, ⟨2, _⟩ => ⟨S1x256x64, .f32⟩
  | .local _ .vmem, ⟨3, _⟩ => ⟨S1x256x64, .f32⟩
  | .local _ .vmem, ⟨4, _⟩ => ⟨S1x2x512x256, .bf16⟩
  | .local _ .vmem, ⟨5, _⟩ => ⟨S1x2x512x256, .bf16⟩
  | .local _ .vmem, ⟨6, _⟩ => ⟨S1x1024x4096, .bf16⟩
  | .local _ .vmem, ⟨7, _⟩ => ⟨S1x1024x4096, .bf16⟩
  | .local _ .vmem, ⟨8, _⟩ => ⟨S1x1024x4096, .bf16⟩
  | .local _ .vmem, ⟨9, _⟩ => ⟨S1x1024x4096, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x4096, .bf16⟩
  | .local _ .vmem, ⟨13, _⟩ => ⟨S1x1024x4096, .bf16⟩
  | .local _ .vmem, ⟨14, _⟩ => ⟨S1x4096x1024, .bf16⟩
  | .local _ .vmem, ⟨15, _⟩ => ⟨S1x4096x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x256x512, .i8⟩
  | .local _ .vmem, ⟨21, _⟩ => ⟨S1x256x512, .i8⟩
  | .local _ .vmem, ⟨22, _⟩ => ⟨S1x256x32, .f32⟩
  | .local _ .vmem, ⟨23, _⟩ => ⟨S1x256x32, .f32⟩
  | .local _ .vmem, ⟨24, _⟩ => ⟨S1x2x512x256, .bf16⟩
  | .local _ .vmem, ⟨25, _⟩ => ⟨S1x2x512x256, .bf16⟩
  | .local _ .vmem, ⟨26, _⟩ => ⟨S1x1024x2048, .bf16⟩
  | .local _ .vmem, ⟨27, _⟩ => ⟨S1x1024x2048, .bf16⟩
  | .local _ .vmem, ⟨28, _⟩ => ⟨S1x1024x2048, .bf16⟩
  | .local _ .vmem, ⟨29, _⟩ => ⟨S1x1024x2048, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x2048, .bf16⟩
  | .local _ .vmem, ⟨33, _⟩ => ⟨S1x1024x2048, .bf16⟩
  | .local _ .vmem, ⟨34, _⟩ => ⟨S1x2048x1024, .bf16⟩
  | .local _ .vmem, ⟨35, _⟩ => ⟨S1x2048x1024, .bf16⟩
  | .local _ .vmem, ⟨36, _⟩ => ⟨S1x1024x1024, .bf16⟩
  | .local _ .vmem, ⟨37, _⟩ => ⟨S1x1024x1024, .bf16⟩
  | .local _ .vmem, ⟨38, _⟩ => ⟨S1x1024x1024, .bf16⟩
  | .local _ .vmem, ⟨39, _⟩ => ⟨S1x1024x1024, .bf16⟩
  | .local _ .vmem, ⟨40, _⟩ => ⟨S1x1024x4096, .bf16⟩
  | .local _ .vmem, ⟨41, _⟩ => ⟨S1x1024x4096, .bf16⟩
  | .local _ .vmem, ⟨42, _⟩ => ⟨S1x4096x1024, .bf16⟩
  | .local _ .vmem, ⟨43, _⟩ => ⟨S1x4096x1024, .bf16⟩
  | .local _ .vmem, ⟨44, _⟩ => ⟨S1x1024x1, .f32⟩
  | .local _ .vmem, ⟨45, _⟩ => ⟨S1x1024x1, .f32⟩
  | .local _ .vmem, ⟨46, _⟩ => ⟨S1x1024x1024, .bf16⟩
  | .local _ .vmem, ⟨47, _⟩ => ⟨S1x1024x1024, .bf16⟩
  | .local _ .vmem, ⟨48, _⟩ => ⟨S1x1024x2048, .bf16⟩
  | .local _ .vmem, ⟨49, _⟩ => ⟨S1x1024x2048, .bf16⟩
  | .local _ .vmem, ⟨50, _⟩ => ⟨S1x1024x2048, .bf16⟩
  | .local _ .vmem, ⟨51, _⟩ => ⟨S1x1024x2048, .bf16⟩
  | .local _ .vmem, ⟨52, _⟩ => ⟨S1x1024x1, .f32⟩
  | .local _ .vmem, ⟨53, _⟩ => ⟨S1x1024x1, .f32⟩
  | .local _ .vmem, ⟨54, _⟩ => ⟨S1x1024x1024, .bf16⟩
  | .local _ .vmem, ⟨55, _⟩ => ⟨S1x1024x1024, .bf16⟩
  | .local _ .vmem, ⟨56, _⟩ => ⟨S1x1024x4096, .bf16⟩
  | .local _ .vmem, ⟨57, _⟩ => ⟨S1x1024x4096, .bf16⟩
  | .local _ .vmem, ⟨58, _⟩ => ⟨S1x4096x1024, .bf16⟩
  | .local _ .vmem, ⟨59, _⟩ => ⟨S1x4096x1024, .bf16⟩
  | .local _ .vmem, ⟨60, _⟩ => ⟨S1x1024x1024, .bf16⟩
  | .local _ .vmem, ⟨61, _⟩ => ⟨S1x1024x1024, .bf16⟩
  | .local _ .vmem, ⟨62, _⟩ => ⟨S1x1024x2048, .bf16⟩
  | .local _ .vmem, ⟨63, _⟩ => ⟨S1x1024x2048, .bf16⟩
  | .local _ .vmem, ⟨64, _⟩ => ⟨S1x2048x1024, .bf16⟩
  | .local _ .vmem, ⟨65, _⟩ => ⟨S1x2048x1024, .bf16⟩
  | .local _ .vmem, ⟨66, _⟩ => ⟨S1x1024x1024, .f32⟩
  | .local _ .vmem, ⟨67, _⟩ => ⟨S1x1024x1024, .f32⟩
  | .local _ .vmem, ⟨68, _⟩ => ⟨S1x8x128, .f32⟩
  | .local _ .vmem, ⟨69, _⟩ => ⟨S1x8x128, .f32⟩
  | .local _ .vmem, ⟨70, _⟩ => ⟨S1x512x2048, .bf16⟩
  | .local _ .vmem, ⟨71, _⟩ => ⟨S1x512x2048, .bf16⟩
  | .local _ .vmem, ⟨72, _⟩ => ⟨S1x512x2048, .f32⟩
  | .local _ .vmem, ⟨73, _⟩ => ⟨S1x512x2048, .f32⟩
  | .local _ .vmem, ⟨74, _⟩ => ⟨S1x512x2048, .f32⟩
  | .local _ .vmem, ⟨75, _⟩ => ⟨S1x512x2048, .f32⟩
  | .local _ .vmem, ⟨76, _⟩ => ⟨S1x8x128, .f32⟩
  | .local _ .vmem, ⟨77, _⟩ => ⟨S1x8x128, .f32⟩
  | .local _ .vmem, ⟨78, _⟩ => ⟨S1x512x2048, .f32⟩
  | .local _ .vmem, ⟨79, _⟩ => ⟨S1x512x2048, .f32⟩
  | .local _ .vmem, ⟨80, _⟩ => ⟨S1x8x128, .f32⟩
  | .local _ .vmem, ⟨81, _⟩ => ⟨S1x8x128, .f32⟩
  | .local _ .vmem, ⟨82, _⟩ => ⟨S1x8x128, .f32⟩
  | .local _ .vmem, ⟨83, _⟩ => ⟨S1x8x128, .f32⟩
  | .local _ .vmem, ⟨84, _⟩ => ⟨S1x512x2048, .f32⟩
  | .local _ .vmem, ⟨85, _⟩ => ⟨S1x512x2048, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg2_1 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg2_1 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc10_stg3_0 : Ref sig .tc := ⟨.vmem, 76, rfl⟩
abbrev cc10_stg3_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg1_1 : Ref sig .tc := ⟨.vmem, 81, rfl⟩
abbrev cc11_stg2_0 : Ref sig .tc := ⟨.vmem, 82, rfl⟩
abbrev cc11_stg2_1 : Ref sig .tc := ⟨.vmem, 83, rfl⟩
abbrev cc11_stg3_0 : Ref sig .tc := ⟨.vmem, 84, rfl⟩
abbrev cc11_stg3_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem2_1 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc10_sem3_0 : DmaSem sig := 76
abbrev cc10_sem3_1 : DmaSem sig := 77
abbrev cc11_sem0_0 : DmaSem sig := 78
abbrev cc11_sem0_1 : DmaSem sig := 79
abbrev cc11_sem1_0 : DmaSem sig := 80
abbrev cc11_sem1_1 : DmaSem sig := 81
abbrev cc11_sem2_0 : DmaSem sig := 82
abbrev cc11_sem2_1 : DmaSem sig := 83
abbrev cc11_sem3_0 : DmaSem sig := 84
abbrev cc11_sem3_1 : DmaSem sig := 85

abbrev nD : Nat := 1
abbrev τ : Topo := Topo.v7x

variable {F : FTy → Type} [FloatOps F]

abbrev grid0 : Pipeline.Grid := ⟨3, ![3, 16, 4], ![false, false, false]⟩

def k0_cond1 (i : grid0.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_8 : BitVec 32 := 0#32
  let v25 : BitVec 1 := Scalar.cmpi .ne v24 c0_i32_8
  v25

def k0_cond2 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_9 : BitVec 32 := 0#32
  let v28 : BitVec 1 := Scalar.cmpi .ne v27 c0_i32_9
  v28

def k0_cond3 (i : grid0.Coords) : BitVec 1 :=
  let arg2 : BitVec 32 := BitVec.ofNat 32 (i 2).val
  let c2_i32 : BitVec 32 := 2#32
  let v29 : BitVec 1 := Scalar.cmpi .eq arg2 c2_i32
  let v30 : BitVec 32 := Scalar.extui v29
  let c0_i32_10 : BitVec 32 := 0#32
  let v31 : BitVec 1 := Scalar.cmpi .ne v30 c0_i32_10
  v31

def k0_cond4 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_11 : BitVec 32 := 0#32
  let v34 : BitVec 1 := Scalar.cmpi .ne v33 c0_i32_11
  v34

def k0_cond5 (i : grid0.Coords) : BitVec 1 :=
  let arg2 : BitVec 32 := BitVec.ofNat 32 (i 2).val
  let c0_i32_12 : BitVec 32 := 0#32
  let v35 : BitVec 1 := Scalar.cmpi .eq arg2 c0_i32_12
  let v36 : BitVec 32 := Scalar.extui v35
  let c0_i32_13 : BitVec 32 := 0#32
  let v37 : BitVec 1 := Scalar.cmpi .ne v36 c0_i32_13
  v37

def k0_cond6 (i : grid0.Coords) : BitVec 1 :=
  let arg2 : BitVec 32 := BitVec.ofNat 32 (i 2).val
  let c1_i32_14 : BitVec 32 := 1#32
  let v38 : BitVec 1 := Scalar.cmpi .eq arg2 c1_i32_14
  let v39 : BitVec 32 := Scalar.extui v38
  let c0_i32_15 : BitVec 32 := 0#32
  let v40 : BitVec 1 := Scalar.cmpi .ne v39 c0_i32_15
  v40

def k0_cond7 (i : grid0.Coords) : BitVec 1 :=
  let arg2 : BitVec 32 := BitVec.ofNat 32 (i 2).val
  let c2_i32_16 : BitVec 32 := 2#32
  let v41 : BitVec 1 := Scalar.cmpi .eq arg2 c2_i32_16
  let v42 : BitVec 32 := Scalar.extui v41
  let c0_i32_17 : BitVec 32 := 0#32
  let v43 : BitVec 1 := Scalar.cmpi .ne v42 c0_i32_17
  v43

def k0_cond8 (i : grid0.Coords) : BitVec 1 :=
  let arg2 : BitVec 32 := BitVec.ofNat 32 (i 2).val
  let c3_i32_18 : BitVec 32 := 3#32
  let v44 : BitVec 1 := Scalar.cmpi .eq arg2 c3_i32_18
  let v45 : BitVec 32 := Scalar.extui v44
  let c0_i32_19 : BitVec 32 := 0#32
  let v46 : BitVec 1 := Scalar.cmpi .ne v45 c0_i32_19
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

abbrev stage0_0 : Fin 2 → Memref sig .tc .vmem S1x256x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![3, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![3, 4, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨3, ![3, 8, 2], ![false, false, false]⟩

def k3_cond1 (i : grid3.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_8 : BitVec 32 := 0#32
  let v25 : BitVec 1 := Scalar.cmpi .ne v24 c0_i32_8
  v25

def k3_cond2 (i : grid3.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_9 : BitVec 32 := 0#32
  let v28 : BitVec 1 := Scalar.cmpi .ne v27 c0_i32_9
  v28

def k3_cond3 (i : grid3.Coords) : BitVec 1 :=
  let arg2 : BitVec 32 := BitVec.ofNat 32 (i 2).val
  let c0_i32_10 : BitVec 32 := 0#32
  let v29 : BitVec 1 := Scalar.cmpi .eq arg2 c0_i32_10
  let v30 : BitVec 32 := Scalar.extui v29
  let c0_i32_11 : BitVec 32 := 0#32
  let v31 : BitVec 1 := Scalar.cmpi .ne v30 c0_i32_11
  v31

def k3_cond4 (i : grid3.Coords) : BitVec 1 :=
  let arg2 : BitVec 32 := BitVec.ofNat 32 (i 2).val
  let c1_i32_12 : BitVec 32 := 1#32
  let v32 : BitVec 1 := Scalar.cmpi .eq arg2 c1_i32_12
  let v33 : BitVec 32 := Scalar.extui v32
  let c0_i32_13 : BitVec 32 := 0#32
  let v34 : BitVec 1 := Scalar.cmpi .ne v33 c0_i32_13
  v34

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

abbrev stage3_0 : Fin 2 → Memref sig .tc .vmem S1x256x512 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x256x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2x512x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev grid4 : Pipeline.Grid := ⟨3, ![3, 2, 2], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage4_0 : Fin 2 → Memref sig .tc .vmem S1x1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, false]

abbrev stage4_2 : Fin 2 → Memref sig .tc .vmem S1x1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![3, 2, 2], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage5_0 : Fin 2 → Memref sig .tc .vmem S1x1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, false]

abbrev stage5_2 : Fin 2 → Memref sig .tc .vmem S1x1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev stage5_3 : Fin 2 → Memref sig .tc .vmem S1x1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev grid6 : Pipeline.Grid := ⟨3, ![3, 2, 4], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage6_0 : Fin 2 → Memref sig .tc .vmem S1x1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1x4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true, false]

abbrev stage6_2 : Fin 2 → Memref sig .tc .vmem S1x1024x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false, true]

abbrev stage6_3 : Fin 2 → Memref sig .tc .vmem S1x1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, true]

abbrev grid7 : Pipeline.Grid := ⟨3, ![3, 4, 2], ![false, false, false]⟩

def cc7_transform_0 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc7_transform_2 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc7_transform_3 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage7_0 : Fin 2 → Memref sig .tc .vmem S1x1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1x1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true, false]

abbrev stage7_2 : Fin 2 → Memref sig .tc .vmem S1x1024x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false, true]

abbrev stage7_3 : Fin 2 → Memref sig .tc .vmem S1x1024x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, true]

abbrev grid8 : Pipeline.Grid := ⟨3, ![3, 4, 2], ![false, false, false]⟩

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage8_0 : Fin 2 → Memref sig .tc .vmem S1x1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1x4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true, false]

abbrev stage8_2 : Fin 2 → Memref sig .tc .vmem S1x1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, true]

abbrev grid9 : Pipeline.Grid := ⟨3, ![3, 2, 4], ![false, false, false]⟩

def cc9_transform_0 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc9_transform_2 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc9_transform_3 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1024x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x2048x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true, false]

abbrev stage9_2 : Fin 2 → Memref sig .tc .vmem S1x1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, true]

abbrev stage9_3 : Fin 2 → Memref sig .tc .vmem S1x8x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false, false]

abbrev grid10 : Pipeline.Grid := ⟨2, ![3, 8], ![false, false]⟩

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x512x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x512x2048 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S1x512x2048 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1x8x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![3, 8], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_3 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage11_0 : Fin 2 → Memref sig .tc .vmem S1x512x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 2 → Memref sig .tc .vmem S1x8x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, false]

abbrev stage11_2 : Fin 2 → Memref sig .tc .vmem S1x8x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 2 → Memref sig .tc .vmem S1x512x2048 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]
-- ==== ReferenceIdeal.lean ====
abbrev S3x4096x2048 : Shape := ⟨3, ![3, 4096, 2048]⟩
abbrev S3x4096x64 : Shape := ⟨3, ![3, 4096, 64]⟩
abbrev S3x4096 : Shape := ⟨2, ![3, 4096]⟩
abbrev S3x2048x1024 : Shape := ⟨3, ![3, 2048, 1024]⟩
abbrev S3x2048x32 : Shape := ⟨3, ![3, 2048, 32]⟩
abbrev S3x2048 : Shape := ⟨2, ![3, 2048]⟩
abbrev S_ : Shape := ⟨0, ![]⟩
abbrev S3x4096x1x2048 : Shape := ⟨4, ![3, 4096, 1, 2048]⟩
abbrev S3x4096x2x2048 : Shape := ⟨4, ![3, 4096, 2, 2048]⟩
abbrev S3x4096x4096 : Shape := ⟨3, ![3, 4096, 4096]⟩
abbrev S3x4096x64x64 : Shape := ⟨4, ![3, 4096, 64, 64]⟩
abbrev S3x4096x64x1 : Shape := ⟨4, ![3, 4096, 64, 1]⟩
abbrev S4096x4096 : Shape := ⟨2, ![4096, 4096]⟩
abbrev S1x4096x4096 : Shape := ⟨3, ![1, 4096, 4096]⟩
abbrev S3x2048x1x1024 : Shape := ⟨4, ![3, 2048, 1, 1024]⟩
abbrev S3x2048x2x1024 : Shape := ⟨4, ![3, 2048, 2, 1024]⟩
abbrev S3x2048x2048 : Shape := ⟨3, ![3, 2048, 2048]⟩
abbrev S3x2048x32x64 : Shape := ⟨4, ![3, 2048, 32, 64]⟩
abbrev S3x2048x32x1 : Shape := ⟨4, ![3, 2048, 32, 1]⟩
abbrev S2048x2048 : Shape := ⟨2, ![2048, 2048]⟩
abbrev S1x2048x2048 : Shape := ⟨3, ![1, 2048, 2048]⟩
abbrev S3x4096x1 : Shape := ⟨3, ![3, 4096, 1]⟩
abbrev S3x1x2048 : Shape := ⟨3, ![3, 1, 2048]⟩
abbrev S3 : Shape := ⟨1, ![3]⟩
abbrev S3x1x1 : Shape := ⟨3, ![3, 1, 1]⟩

abbrev nBuf : Space → Nat
  | .hbm => 154
  | .vmem => 0
  | .smem => 0
  | _ => 0

abbrev hbmTy0_0 (i : Nat) : BufTy := match i % 128 with
  | 0 => ⟨S3x4096x2048, .bf16⟩
  | 1 => ⟨S3x4096x2048, .f32⟩
  | 2 => ⟨S3x4096x2048, .i8⟩
  | 3 => ⟨S3x4096x64, .f32⟩
  | 4 => ⟨S3x4096, .f32⟩
  | 5 => ⟨S3x2048x1024, .i8⟩
  | 6 => ⟨S3x2048x32, .f32⟩
  | 7 => ⟨S3x2048, .f32⟩
  | 8 => ⟨S3x4096x2048, .i32⟩
  | 9 => ⟨S_, .i32⟩
  | 10 => ⟨S3x4096x2048, .i32⟩
  | 11 => ⟨S3x4096x2048, .i32⟩
  | 12 => ⟨S_, .i32⟩
  | 13 => ⟨S3x4096x2048, .i32⟩
  | 14 => ⟨S3x4096x2048, .i1⟩
  | 15 => ⟨S_, .i32⟩
  | 16 => ⟨S3x4096x2048, .i32⟩
  | 17 => ⟨S3x4096x2048, .i32⟩
  | 18 => ⟨S3x4096x2048, .i32⟩
  | 19 => ⟨S_, .i32⟩
  | 20 => ⟨S3x4096x2048, .i32⟩
  | 21 => ⟨S3x4096x2048, .i32⟩
  | 22 => ⟨S_, .i32⟩
  | 23 => ⟨S3x4096x2048, .i32⟩
  | 24 => ⟨S3x4096x2048, .i1⟩
  | 25 => ⟨S_, .i32⟩
  | 26 => ⟨S3x4096x2048, .i32⟩
  | 27 => ⟨S3x4096x2048, .i32⟩
  | 28 => ⟨S3x4096x2048, .i32⟩
  | 29 => ⟨S3x4096x1x2048, .i32⟩
  | 30 => ⟨S3x4096x1x2048, .i32⟩
  | 31 => ⟨S3x4096x2x2048, .i32⟩
  | 32 => ⟨S3x4096x4096, .i32⟩
  | 33 => ⟨S3x4096x4096, .bf16⟩
  | 34 => ⟨S3x4096x64, .bf16⟩
  | 35 => ⟨S3x4096x64x64, .bf16⟩
  | 36 => ⟨S3x4096x64x1, .bf16⟩
  | 37 => ⟨S3x4096x64x64, .bf16⟩
  | 38 => ⟨S3x4096x64x64, .bf16⟩
  | 39 => ⟨S3x4096x4096, .bf16⟩
  | 40 => ⟨S3x4096x4096, .f32⟩
  | 41 => ⟨S4096x4096, .i32⟩
  | 42 => ⟨S4096x4096, .i32⟩
  | 43 => ⟨S_, .i32⟩
  | 44 => ⟨S4096x4096, .i32⟩
  | 45 => ⟨S4096x4096, .i32⟩
  | 46 => ⟨S4096x4096, .i1⟩
  | 47 => ⟨S4096x4096, .f32⟩
  | 48 => ⟨S1x4096x4096, .f32⟩
  | 49 => ⟨S3x4096x4096, .f32⟩
  | 50 => ⟨S3x4096x4096, .f32⟩
  | 51 => ⟨S3x4096x4096, .bf16⟩
  | 52 => ⟨S3x4096x4096, .f32⟩
  | 53 => ⟨S3x4096x4096, .f32⟩
  | 54 => ⟨S_, .f32⟩
  | 55 => ⟨S3x4096x4096, .f32⟩
  | 56 => ⟨S3x4096x4096, .f32⟩
  | 57 => ⟨S3x4096x4096, .f32⟩
  | 58 => ⟨S3x4096x4096, .bf16⟩
  | 59 => ⟨S_, .f32⟩
  | 60 => ⟨S3x4096, .f32⟩
  | 61 => ⟨S3x4096, .f32⟩
  | 62 => ⟨S_, .f32⟩
  | 63 => ⟨S3x4096, .f32⟩
  | 64 => ⟨S3x4096, .f32⟩
  | 65 => ⟨S3x2048x1024, .i32⟩
  | 66 => ⟨S_, .i32⟩
  | 67 => ⟨S3x2048x1024, .i32⟩
  | 68 => ⟨S3x2048x1024, .i32⟩
  | 69 => ⟨S_, .i32⟩
  | 70 => ⟨S3x2048x1024, .i32⟩
  | 71 => ⟨S3x2048x1024, .i1⟩
  | 72 => ⟨S_, .i32⟩
  | 73 => ⟨S3x2048x1024, .i32⟩
  | 74 => ⟨S3x2048x1024, .i32⟩
  | 75 => ⟨S3x2048x1024, .i32⟩
  | 76 => ⟨S_, .i32⟩
  | 77 => ⟨S3x2048x1024, .i32⟩
  | 78 => ⟨S3x2048x1024, .i32⟩
  | 79 => ⟨S_, .i32⟩
  | 80 => ⟨S3x2048x1024, .i32⟩
  | 81 => ⟨S3x2048x1024, .i1⟩
  | 82 => ⟨S_, .i32⟩
  | 83 => ⟨S3x2048x1024, .i32⟩
  | 84 => ⟨S3x2048x1024, .i32⟩
  | 85 => ⟨S3x2048x1024, .i32⟩
  | 86 => ⟨S3x2048x1x1024, .i32⟩
  | 87 => ⟨S3x2048x1x1024, .i32⟩
  | 88 => ⟨S3x2048x2x1024, .i32⟩
  | 89 => ⟨S3x2048x2048, .i32⟩
  | 90 => ⟨S3x2048x2048, .bf16⟩
  | 91 => ⟨S3x2048x32, .bf16⟩
  | 92 => ⟨S3x2048x32x64, .bf16⟩
  | 93 => ⟨S3x2048x32x1, .bf16⟩
  | 94 => ⟨S3x2048x32x64, .bf16⟩
  | 95 => ⟨S3x2048x32x64, .bf16⟩
  | 96 => ⟨S3x2048x2048, .bf16⟩
  | 97 => ⟨S3x2048x2048, .f32⟩
  | 98 => ⟨S2048x2048, .i32⟩
  | 99 => ⟨S2048x2048, .i32⟩
  | 100 => ⟨S_, .i32⟩
  | 101 => ⟨S2048x2048, .i32⟩
  | 102 => ⟨S2048x2048, .i32⟩
  | 103 => ⟨S2048x2048, .i1⟩
  | 104 => ⟨S2048x2048, .f32⟩
  | 105 => ⟨S1x2048x2048, .f32⟩
  | 106 => ⟨S3x2048x2048, .f32⟩
  | 107 => ⟨S3x2048x2048, .f32⟩
  | 108 => ⟨S3x2048x2048, .bf16⟩
  | 109 => ⟨S3x2048x2048, .f32⟩
  | 110 => ⟨S3x2048x2048, .f32⟩
  | 111 => ⟨S_, .f32⟩
  | 112 => ⟨S3x2048x2048, .f32⟩
  | 113 => ⟨S3x2048x2048, .f32⟩
  | 114 => ⟨S3x2048x2048, .f32⟩
  | 115 => ⟨S3x2048x2048, .bf16⟩
  | 116 => ⟨S_, .f32⟩
  | 117 => ⟨S3x2048, .f32⟩
  | 118 => ⟨S3x2048, .f32⟩
  | 119 => ⟨S_, .f32⟩
  | 120 => ⟨S3x2048, .f32⟩
  | 121 => ⟨S3x2048, .f32⟩
  | 122 => ⟨S3x4096x2048, .f32⟩
  | 123 => ⟨S3x4096x1, .f32⟩
  | 124 => ⟨S3x4096x2048, .f32⟩
  | 125 => ⟨S3x4096x2048, .f32⟩
  | 126 => ⟨S3x4096x2048, .bf16⟩
  | 127 => ⟨S3x4096x2048, .f32⟩
  | _ => ⟨S3x4096x2048, .bf16⟩

abbrev hbmTy0_1 (i : Nat) : BufTy := match i % 128 with
  | 0 => ⟨S3x1x2048, .f32⟩
  | 1 => ⟨S3x4096x2048, .f32⟩
  | 2 => ⟨S3x4096x2048, .f32⟩
  | 3 => ⟨S3x4096x2048, .bf16⟩
  | 4 => ⟨S3x4096x2048, .f32⟩
  | 5 => ⟨S3x4096x2048, .bf16⟩
  | 6 => ⟨S3x4096x2048, .f32⟩
  | 7 => ⟨S3x4096x2048, .f32⟩
  | 8 => ⟨S3x4096x2048, .f32⟩
  | 9 => ⟨S_, .f32⟩
  | 10 => ⟨S3x4096x2048, .f32⟩
  | 11 => ⟨S3x4096x2048, .f32⟩
  | 12 => ⟨S3x4096x2048, .f32⟩
  | 13 => ⟨S3x4096x2048, .f32⟩
  | 14 => ⟨S_, .f32⟩
  | 15 => ⟨S3, .f32⟩
  | 16 => ⟨S3x1x1, .f32⟩
  | 17 => ⟨S3x1x1, .f32⟩
  | 18 => ⟨S3x4096x2048, .f32⟩
  | 19 => ⟨S_, .f32⟩
  | 20 => ⟨S3, .f32⟩
  | 21 => ⟨S3x1x1, .f32⟩
  | 22 => ⟨S3x1x1, .f32⟩
  | 23 => ⟨S3x1x1, .f32⟩
  | 24 => ⟨S3x4096x2048, .f32⟩
  | 25 => ⟨S3x4096x2048, .f32⟩
  | _ => ⟨S3x4096x2048, .bf16⟩

abbrev hbmTy (i : Nat) : BufTy := match i / 128 with
  | 0 => hbmTy0_0 i
  | 1 => hbmTy0_1 i
  | _ => ⟨S3x4096x2048, .bf16⟩

abbrev bufTy : (tb : Table) → Fin (tcTables nBuf tb) → BufTy
  | .hbm, ⟨i, _⟩ => hbmTy i
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_18 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_19 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_20 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩

abbrev nD : Nat := 1
abbrev τ : Topo := Topo.v7x

variable {F : FTy → Type} [FloatOps F]
-- ==== Proof.Plain.lean ====
/- Arrays of three axes as plain functions of their three indices, and the layout operations read at an index. -/
module

public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.WordCmp

@[expose] public section

noncomputable section

namespace Cert.Proof

open Idealize.ShloMosaic Idealize.ShloMosaic.ValueIdx

/-- An array of three axes as a function of three indices. -/
abbrev rd {α : Type} {n0 n1 n2 : ℕ} (x : (⟨3, ![n0, n1, n2]⟩ : Shape).Idx → α) : Fin n0 → Fin n1 → Fin n2 → α :=
  fun a b c => x (ix3 a b c)

/-- Zero offsets, however they are spelt. -/
theorem hz3 : (![0, 0, 0] : Fin 3 → Nat) = fun _ => 0 := funext fun a => by fin_cases a <;> rfl

/-- A statement about each of three axes. -/
theorem all3 {P : Fin 3 → Prop} (h0 : P 0) (h1 : P 1) (h2 : P 2) (a : Fin 3) : P a := by
  match a with
  | ⟨0, _⟩ => exact h0
  | ⟨1, _⟩ => exact h1
  | ⟨2, _⟩ => exact h2

/-- Two indices of three axes with the same coordinates are the same. -/
theorem ix3_ext {n0 n1 n2 : ℕ} {j : (⟨3, ![n0, n1, n2]⟩ : Shape).Idx} {a : Fin n0} {b : Fin n1} {c : Fin n2}
    (h0 : (j 0).val = a.val) (h1 : (j 1).val = b.val) (h2 : (j 2).val = c.val) : j = ix3 a b c := by
  rw [eq_ix3 j]; exact congr (congr (congrArg ix3 (Fin.ext h0)) (Fin.ext h1)) (Fin.ext h2)

/-- An index of a block of one leading entry is that entry with a row and a column. -/
theorem one3 {a b : ℕ} (y : (⟨3, ![1, a, b]⟩ : Shape).Idx) : ∃ (r : Fin a) (c : Fin b), y = ix3 0 r c :=
  ⟨y 1, y 2, ix3_ext (Nat.lt_one_iff.1 (y 0).isLt) rfl rfl⟩

/-- A block of one leading entry, seen without that axis. -/
theorem cast_drop {α : Type} {a b : ℕ} (v : (⟨3, ![1, a, b]⟩ : Shape).Idx → α)
    (h : (⟨3, ![1, a, b]⟩ : Shape).ShapeCasts ⟨2, ![a, b]⟩) (r : Fin a) (c : Fin b) :
    shapeCast ⟨2, ![a, b]⟩ v h (ix2 r c) = v (ix3 0 r c) :=
  (shapeCast_dropUnit_apply ![a, b] v h _).trans (congrArg v (funext fun d => by
    match d with
    | ⟨0, _⟩ => rfl
    | ⟨1, _⟩ => rfl
    | ⟨2, _⟩ => rfl))

/-- A matrix seen as a block of one leading entry. -/
theorem cast_add {α : Type} {a b : ℕ} (v : (⟨2, ![a, b]⟩ : Shape).Idx → α)
    (h : (⟨2, ![a, b]⟩ : Shape).ShapeCasts ⟨3, ![1, a, b]⟩) (j : (⟨3, ![1, a, b]⟩ : Shape).Idx) :
    shapeCast ⟨3, ![1, a, b]⟩ v h j = v (ix2 (j 1) (j 2)) :=
  (shapeCast_addUnit_apply ![a, b] v h _).trans (congrArg v (funext fun d => by
    match d with
    | ⟨0, _⟩ => rfl
    | ⟨1, _⟩ => rfl))

/-- A product of two blocks over their last axes, into zero. -/
theorem mm_nt {M K N : ℕ} {φ₁ φ₂ : FTy} (x : FVec Ideal ⟨3, ![1, M, K]⟩ φ₁) (z : FVec Ideal ⟨3, ![1, N, K]⟩ φ₂)
    (hx : (⟨3, ![1, M, K]⟩ : Shape).ShapeCasts ⟨2, ![M, K]⟩) (hz : (⟨3, ![1, N, K]⟩ : Shape).ShapeCasts ⟨2, ![N, K]⟩) (r : Fin M) (c : Fin N) :
    FloatOps.matmul (DotDims.transposedRhs M K N) none (shapeCast ⟨2, ![M, K]⟩ x hx) (shapeCast ⟨2, ![N, K]⟩ z hz)
      (constant (F := Ideal) ⟨2, ![M, N]⟩ .f32 0x00000000#32) (ix2 r c) = ∑ k : Fin K, x (ix3 0 r k) * z (ix3 0 c k) := by
  rw [Ideal.matmul_transposedRhs_apply, constant_apply, Ideal.ofBits_zero_f32, zero_add]
  exact Finset.sum_congr rfl fun k _ => by rw [cast_drop, cast_drop]

/-- A plain product of two blocks, into zero. -/
theorem mm_nn {M K N : ℕ} {φ₁ φ₂ : FTy} (x : FVec Ideal ⟨3, ![1, M, K]⟩ φ₁) (z : FVec Ideal ⟨3, ![1, K, N]⟩ φ₂)
    (hx : (⟨3, ![1, M, K]⟩ : Shape).ShapeCasts ⟨2, ![M, K]⟩) (hz : (⟨3, ![1, K, N]⟩ : Shape).ShapeCasts ⟨2, ![K, N]⟩) (r : Fin M) (c : Fin N) :
    FloatOps.matmul (DotDims.plain M K N) none (shapeCast ⟨2, ![M, K]⟩ x hx) (shapeCast ⟨2, ![K, N]⟩ z hz)
      (constant (F := Ideal) ⟨2, ![M, N]⟩ .f32 0x00000000#32) (ix2 r c) = ∑ k : Fin K, x (ix3 0 r k) * z (ix3 0 k c) := by
  rw [Ideal.matmul_plain_apply, constant_apply, Ideal.ofBits_zero_f32, zero_add]
  exact Finset.sum_congr rfl fun k _ => by rw [cast_drop, cast_drop]

end Cert.Proof

end
-- ==== Proof.Math.lean ====
/- The mathematics of the kernel, array by array, as plain functions of a batch entry, a row and a column. -/
module

public import Idealize.ShloMosaic.PureOps.Ideal.Laws

@[expose] public section

noncomputable section

namespace Cert.Proof

open Idealize.ShloMosaic

/-- One half, as the printed word names it. -/
def half : EReal := Ideal.ofBits .f32 0x3F000000#32

/-- The damping added to an eigenvalue before its fourth root. -/
def eps : EReal := Ideal.ofBits .f32 0x38D1B717#32

/-- The damping added to the root of the accumulator. -/
def tiny : EReal := Ideal.ofBits .f32 0x322BCC77#32

/-- The damped inverse fourth root, as the kernel spells it. -/
def damp (x : EReal) : EReal := Ideal.rsqrt (Ideal.sqrt (x + eps))

/-- An array of three batch entries of `m` rows and `n` columns. -/
abbrev Arr (m n : ℕ) : Type := Fin 3 → Fin m → Fin n → EReal

variable {m n : ℕ}

/-- The low four bits of a code, read as a signed number. -/
def lowNib (x : BitVec 8) : BitVec 32 := ((x.setWidth 32 &&& 15#32) ^^^ 8#32) - 8#32

/-- The high four bits of a code, read as a signed number. -/
def highNib (x : BitVec 8) : BitVec 32 := ((x.setWidth 32).sshiftRight' 4#32 ^^^ 8#32) - 8#32

/-- The half of a code that the half `h` of the columns is read from, as a number. -/
def nib (h : Fin 2) (x : BitVec 8) : EReal := (((if h = 0 then lowNib x else highNib x).toInt : ℝ) : EReal)

/-- The group of 64 columns that column `r` of half `h` belongs to. -/
def grp {half g : ℕ} (hg : 2 * half = 64 * g) (h : Fin 2) (r : Fin half) : Fin g :=
  ⟨(h.val * half + r.val) / 64, by
    have hr := r.isLt
    have : h.val * half ≤ 1 * half := Nat.mul_le_mul_right half (by have := h.isLt; omega)
    omega⟩

/-- A decoded factor: column `r` of half `h` of row `i`, the code times the scale of its group. -/
def decoded {n half g : ℕ} (hg : 2 * half = 64 * g) (codes : Fin 3 → Fin n → Fin half → BitVec 8) (scales : Fin 3 → Fin n → Fin g → EReal) :
    Fin 3 → Fin 2 → Fin half → Fin n → EReal := fun b h r i => nib h (codes b i r) * scales b i (grp hg h r)

/-- The gram matrix of the rows of `v`, less the identity. -/
def gram (v : Arr n n) : Arr n n := fun b i j =>
  if i = j then (∑ k, v b i k * v b j k) - 1 else ∑ k, v b i k * v b j k

/-- A factor corrected by half its product with `e`. -/
def corr (e v : Arr n n) : Arr n n := fun b i j => v b i j - half * ∑ k, e b i k * v b k j

/-- The gradient turned by the left factor, row `i` damped by its eigenvalue. -/
def turn (w : Arr m m) (g : Arr m n) (lam : Arr m 1) : Arr m n := fun b i j =>
  (∑ k, w b i k * g b k j) * damp (lam b i 0)

/-- The turned gradient against the rows of the right factor, damped, with its axes exchanged. -/
def turnT (w : Arr n n) (x : Arr m n) (lam : Arr n 1) : Arr n m := fun b i j =>
  (∑ k, w b i k * x b j k) * damp (lam b i 0)

/-- Turned back by the left factor, the axes exchanged again. -/
def back (x : Arr n m) (w : Arr m m) : Arr m n := fun b i j => ∑ k, x b j k * w b k i

/-- Turned back by the right factor. -/
def prec (x : Arr m n) (w : Arr n n) : Arr m n := fun b i j => ∑ k, x b i k * w b k j

/-- The diagonal preconditioner. -/
def ada (g a : Arr m n) : Arr m n := fun b i j => Ideal.div (g b i j) (Ideal.sqrt (a b i j) + tiny)

/-- The sum of the squares of one batch entry. -/
def sq (x : Arr m n) (b : Fin 3) : EReal := ∑ i, ∑ j, x b i j * x b i j

/-- A direction rescaled, batch entry by batch entry, from one norm to another, each given squared. -/
def graft (p : Arr m n) (a s : Fin 3 → EReal) : Arr m n := fun b i j => p b i j * Ideal.div (Ideal.sqrt (a b)) (Ideal.sqrt (s b))

/-- The two halves of the columns of a decoded factor one after the other: its transpose, as rows. -/
def flat {half : ℕ} (hn : n = 2 * half) (d : Fin 3 → Fin 2 → Fin half → Fin n → EReal) : Arr n n := fun b k i =>
  d b ⟨k.val / half, Nat.div_lt_of_lt_mul (by have := k.isLt; omega)⟩ ⟨k.val % half, Nat.mod_lt _ (by have := k.isLt; omega)⟩ i

/-- The corrected factor, from the decoded one. -/
def factor (v : Arr n n) : Arr n n := corr (gram v) v

/-- The preconditioned gradient: turned into the factors' bases, damped, and turned back. -/
def direction (g : Arr m n) (wl : Arr m m) (dl : Arr m 1) (wr : Arr n n) (dr : Arr n 1) : Arr m n :=
  prec (back (turnT wr (turn wl g dl) dr) wl) wr

/-- The update: the preconditioned gradient with the norm of the diagonal one. -/
def update (g a : Arr m n) (wl : Arr m m) (dl : Arr m 1) (wr : Arr n n) (dr : Arr n 1) : Arr m n :=
  graft (direction g wl dl wr dr) (sq (ada g a)) (sq (direction g wl dl wr dr))

end Cert.Proof

end
-- ==== Proof.Nibble.lean ====
/- One decoded tile: the codes and the scales of a block, read at an index. -/
module

public import proofs.«01_k».proof.Proof.Plain
public import proofs.«01_k».proof.Proof.Math
public import proofs.«01_k».proof.Proof.Gen.KernelIdeal.Skeleton

@[expose] public section

noncomputable section

namespace Cert.Proof

open Idealize.ShloMosaic Idealize.ShloMosaic.ValueIdx Idealize.ShloMosaic.TcCoe
open Cert.KernelIdeal Cert.KernelIdeal.Gen

/-- A tile of codes times the scales of eight groups, each spread over its 64 columns. -/
def scaled {g : ℕ} (o : ℕ) (v : FVec Ideal S512x256 .f32) (s : FVec Ideal ⟨2, ![g, 256]⟩ .f32)
    (h : (⟨2, ![g, 256]⟩ : Shape).Slices ![o, 0] S8x256) : FVec Ideal S1x1x512x256 .bf16 :=
  shapeCast S1x1x512x256 (truncf .bf16 (mulf v
    (shapeCast S512x256 (broadcastTo S8x64x256 (shapeCast S8x1x256 (shapeCast S8x1x256 (extractStridedSlice S8x256 ![o, 0] s h)
      shapeCasts_S8x256_S8x1x256) shapeCasts_S8x1x256_S8x1x256) broadcasts_S8x1x256_S8x64x256) shapeCasts_S8x64x256_S512x256)) bitsLt_bf16_f32)
    shapeCasts_S512x256_S1x1x512x256

/-- Its entry: the code's times the scale of the row's group. -/
theorem scaled_apply {g : ℕ} (o : ℕ) (v : FVec Ideal S512x256 .f32) (s : FVec Ideal ⟨2, ![g, 256]⟩ .f32)
    (h : (⟨2, ![g, 256]⟩ : Shape).Slices ![o, 0] S8x256) (r : Fin 512) (c : Fin 256) (q : Fin g) (hq : q.val = o + r.val / 64) :
    scaled o v s h (ix4 0 0 r c) = (v (ix2 r c) * s (ix2 q c) : EReal) := by
  have hr := r.isLt
  have hc := c.isLt
  unfold scaled
  refine (shapeCast_apply _ _ (ix4 0 0 r c) (ix2 r c) (by
    rw [Shape.rowMajor_val_two, Shape.rowMajor_val_four]
    show r.val * 256 + c.val = ((0 * 1 + 0) * 512 + r.val) * 256 + c.val
    omega)).trans ?_
  rw [truncf_apply, mulf_apply]
  refine congrArg (fun a : EReal => v (ix2 r c) * a) ?_
  refine (shapeCast_apply _ _ (ix2 r c) (ix3 (⟨r.val / 64, by omega⟩ : Fin 8) (⟨r.val % 64, by omega⟩ : Fin 64) c) (by
    rw [Shape.rowMajor_val_two, Shape.rowMajor_val_three]
    show (r.val / 64 * 64 + r.val % 64) * 256 + c.val = r.val * 256 + c.val
    omega)).trans ?_
  refine (broadcastTo_apply _ _ _ (ix3 (⟨r.val / 64, by omega⟩ : Fin 8) (0 : Fin 1) c) (all3 rfl rfl rfl)).trans ?_
  refine (shapeCast_apply _ _ _ (ix3 (⟨r.val / 64, by omega⟩ : Fin 8) (0 : Fin 1) c) rfl).trans ?_
  refine (shapeCast_apply _ _ _ (ix2 (⟨r.val / 64, by omega⟩ : Fin 8) c) (by
    rw [Shape.rowMajor_val_two, Shape.rowMajor_val_three]
    show r.val / 64 * 256 + c.val = (r.val / 64 * 1 + 0) * 256 + c.val
    omega)).trans ?_
  refine extractStridedSlice_apply _ _ h _ (ix2 q c) fun a => ?_
  match a with
  | ⟨0, _⟩ => exact hq
  | ⟨1, _⟩ => show c.val = 0 + c.val; omega

/-- The two halves of a block, one above the other. -/
def halves (lo hi : FVec Ideal S1x1x512x256 .bf16) : FVec Ideal S1x2x512x256 .bf16 := fun y =>
  if (y 1).val = 0 then lo (ix4 0 0 (y 2) (y 3)) else hi (ix4 0 0 (y 2) (y 3))

/-- An index of one half of a block of one leading entry. -/
theorem one4 (y : S1x1x512x256.Idx) : ∃ (r : Fin 512) (c : Fin 256), y = ix4 0 0 r c :=
  ⟨y 2, y 3, by
    rw [eq_ix4 y]
    exact congr (congr (congr (congrArg ix4 (Fin.ext (Nat.lt_one_iff.1 (y 0).isLt))) (Fin.ext (Nat.lt_one_iff.1 (y 1).isLt))) rfl) rfl⟩

/-- Two stores, one to each half, leave the two halves. -/
theorem canon_halves (lo hi : FVec Ideal S1x1x512x256 .bf16)
    (i0 : ∀ a, (![0, 0, 0, 0] : Fin 4 → ℕ) a + S1x1x512x256.size a ≤ S1x2x512x256.size a)
    (i1 : ∀ a, (![0, 1, 0, 0] : Fin 4 → ℕ) a + S1x1x512x256.size a ≤ S1x2x512x256.size a) :
    View.canon (Val := Elt Ideal) (e := .bf16) [(⟨Rect.unit (s := S1x2x512x256) ![0, 1, 0, 0] S1x1x512x256.size i1, hi⟩ : View.Piece (Elt Ideal) S1x2x512x256 .bf16),
      ⟨Rect.unit (s := S1x2x512x256) ![0, 0, 0, 0] S1x1x512x256.size i0, lo⟩] = halves lo hi := by
  funext y
  have y0 : (y 0).val < 1 := (y 0).isLt
  have y1 : (y 1).val < 2 := (y 1).isLt
  have y2 : (y 2).val < 512 := (y 2).isLt
  have y3 : (y 3).val < 256 := (y 3).isLt
  refine View.canon_apply_of_pieces (Val := Elt Ideal) (e := .bf16) (halves lo hi) _ ?_ y ?_
  · intro p hp x
    rcases List.mem_cons.1 hp with rfl | hp
    · obtain ⟨r, c, rfl⟩ := one4 x
      refine Eq.trans ?_ (if_neg (by show ¬ (1 + 1 * 0 = 0); omega)).symm
      refine congrArg hi ?_
      exact congr (congrArg (ix4 (0 : Fin 1) (0 : Fin 1)) (Fin.ext (by show r.val = 0 + 1 * r.val; omega))) (Fin.ext (by show c.val = 0 + 1 * c.val; omega))
    · rcases List.mem_cons.1 hp with rfl | hp
      · obtain ⟨r, c, rfl⟩ := one4 x
        refine Eq.trans ?_ (if_pos (by show 0 + 1 * 0 = 0; omega)).symm
        refine congrArg lo ?_
        exact congr (congrArg (ix4 (0 : Fin 1) (0 : Fin 1)) (Fin.ext (by show r.val = 0 + 1 * r.val; omega))) (Fin.ext (by show c.val = 0 + 1 * c.val; omega))
      · exact absurd hp List.not_mem_nil
  · rcases Nat.eq_zero_or_pos (y 1).val with h | h
    · refine ⟨_, List.mem_cons_of_mem _ (List.mem_cons_self ..), ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 512; omega
      | ⟨3, _⟩ => show 0 ≤ (y 3).val ∧ (y 3).val < 0 + 256; omega
    · refine ⟨_, List.mem_cons_self .., ?_⟩
      rw [Rect.mem_set_unit]
      intro a
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + 512; omega
      | ⟨3, _⟩ => show 0 ≤ (y 3).val ∧ (y 3).val < 0 + 256; omega

/-- A block whose halves are scaled codes: its entry. -/
theorem halves_apply {g : ℕ} (x : Fin 2 → FVec Ideal S512x256 .f32) (s : FVec Ideal ⟨2, ![g, 256]⟩ .f32) (o0 o1 : ℕ)
    (h0 : (⟨2, ![g, 256]⟩ : Shape).Slices ![o0, 0] S8x256) (h1 : (⟨2, ![g, 256]⟩ : Shape).Slices ![o1, 0] S8x256)
    (h : Fin 2) (r : Fin 512) (c : Fin 256) (q : Fin g) (hq : q.val = (if h = 0 then o0 else o1) + r.val / 64) :
    halves (scaled o0 (x 0) s h0) (scaled o1 (x 1) s h1) (ix4 0 h r c) = (x h (ix2 r c) * s (ix2 q c) : EReal) := by
  match h with
  | ⟨0, _⟩ => exact scaled_apply o0 (x 0) s h0 r c q hq
  | ⟨1, _⟩ => exact scaled_apply o1 (x 1) s h1 r c q hq

/-- The codes of a block as words, the rows and the columns exchanged. -/
theorem k0_pay6_apply (x : Vec Ideal S1x256x512 .i8) (r : Fin 512) (c : Fin 256) :
    k0_pay6 (F := Ideal) x (ix2 r c) = (x (ix3 0 c r) : BitVec 8).setWidth 32 := by
  unfold k0_pay6
  refine (transpose_apply _ _ _ (ix2 r c) (ix2 c r) fun b => ?_).trans ?_
  · match b with
    | ⟨0, _⟩ => rfl
    | ⟨1, _⟩ => rfl
  · exact congrArg (fun z : BitVec 8 => z.setWidth 32) (cast_drop x _ c r)

/-- The two halves of the codes of a block as numbers. -/
def codes0 (x : Vec Ideal S1x256x512 .i8) (h : Fin 2) : FVec Ideal S512x256 .f32 := if h = 0 then k0_pay7 x else k0_pay8 x

/-- Their entries. -/
theorem codes0_apply (x : Vec Ideal S1x256x512 .i8) (h : Fin 2) (r : Fin 512) (c : Fin 256) :
    codes0 x h (ix2 r c) = nib h (x (ix3 0 c r)) := by
  match h with
  | ⟨0, _⟩ =>
    exact congrArg (fun z : BitVec 32 => (((((z &&& 15#32) ^^^ 8#32) - 8#32).toInt : ℝ) : EReal)) (k0_pay6_apply x r c)
  | ⟨1, _⟩ =>
    exact congrArg (fun z : BitVec 32 => ((((z.sshiftRight' 4#32 ^^^ 8#32) - 8#32).toInt : ℝ) : EReal)) (k0_pay6_apply x r c)

/-- The scales of a block, the rows and the columns exchanged. -/
theorem k0_pay9_apply (x : Vec Ideal S1x256x64 .f32) (r : Fin 64) (c : Fin 256) :
    k0_pay9 x (ix2 r c) = (x (ix3 0 c r) : EReal) := by
  unfold k0_pay9
  rw [extf_apply, truncf_apply]
  refine (transpose_apply _ _ _ (ix2 r c) (ix2 c r) fun b => ?_).trans ?_
  · match b with
    | ⟨0, _⟩ => rfl
    | ⟨1, _⟩ => rfl
  · exact cast_drop x _ c r

/-- The codes of a block as words, the rows and the columns exchanged. -/
theorem k3_pay2_apply (x : Vec Ideal S1x256x512 .i8) (r : Fin 512) (c : Fin 256) :
    k3_pay2 (F := Ideal) x (ix2 r c) = (x (ix3 0 c r) : BitVec 8).setWidth 32 := by
  unfold k3_pay2
  refine (transpose_apply _ _ _ (ix2 r c) (ix2 c r) fun b => ?_).trans ?_
  · match b with
    | ⟨0, _⟩ => rfl
    | ⟨1, _⟩ => rfl
  · exact congrArg (fun z : BitVec 8 => z.setWidth 32) (cast_drop x _ c r)

/-- The two halves of the codes of a block as numbers. -/
def codes3 (x : Vec Ideal S1x256x512 .i8) (h : Fin 2) : FVec Ideal S512x256 .f32 := if h = 0 then k3_pay3 x else k3_pay4 x

/-- Their entries. -/
theorem codes3_apply (x : Vec Ideal S1x256x512 .i8) (h : Fin 2) (r : Fin 512) (c : Fin 256) :
    codes3 x h (ix2 r c) = nib h (x (ix3 0 c r)) := by
  match h with
  | ⟨0, _⟩ =>
    exact congrArg (fun z : BitVec 32 => (((((z &&& 15#32) ^^^ 8#32) - 8#32).toInt : ℝ) : EReal)) (k3_pay2_apply x r c)
  | ⟨1, _⟩ =>
    exact congrArg (fun z : BitVec 32 => ((((z.sshiftRight' 4#32 ^^^ 8#32) - 8#32).toInt : ℝ) : EReal)) (k3_pay2_apply x r c)

/-- The scales of a block, the rows and the columns exchanged. -/
theorem k3_pay5_apply (x : Vec Ideal S1x256x32 .f32) (r : Fin 32) (c : Fin 256) :
    k3_pay5 x (ix2 r c) = (x (ix3 0 c r) : EReal) := by
  unfold k3_pay5
  rw [extf_apply, truncf_apply]
  refine (transpose_apply _ _ _ (ix2 r c) (ix2 c r) fun b => ?_).trans ?_
  · match b with
    | ⟨0, _⟩ => rfl
    | ⟨1, _⟩ => rfl
  · exact cast_drop x _ c r

end Cert.Proof

end
-- ==== Proof.Decode.lean ====
/- The decoding of each factor: the array the region leaves, from the codes and the scales it finds. -/
module

public import proofs.«01_k».proof.Proof.Nibble
public import proofs.«01_k».proof.Proof.Gen.KernelIdeal.Frame.Region0
public import proofs.«01_k».proof.Proof.Gen.KernelIdeal.Frame.Region3
public import Idealize.ShloMosaic.Lib.Tactic

@[expose] public section

noncomputable section

namespace Cert.Proof

open Idealize.ShloMosaic Idealize.ShloMosaic.ValueIdx Idealize.ShloMosaic.TcCoe
open Cert.KernelIdeal Cert.KernelIdeal.Gen

/-- A statement about each of four axes. -/
theorem all4 {P : Fin 4 → Prop} (h0 : P 0) (h1 : P 1) (h2 : P 2) (h3 : P 3) (a : Fin 4) : P a := by
  match a with
  | ⟨0, _⟩ => exact h0
  | ⟨1, _⟩ => exact h1
  | ⟨2, _⟩ => exact h2
  | ⟨3, _⟩ => exact h3

/-- An index of a block of one leading entry and two halves. -/
theorem one4' (y : S1x2x512x256.Idx) : ∃ (h : Fin 2) (r : Fin 512) (c : Fin 256), y = ix4 0 h r c :=
  ⟨y 1, y 2, y 3, by
    rw [eq_ix4 y]
    exact congr (congr (congr (congrArg ix4 (Fin.ext (Nat.lt_one_iff.1 (y 0).isLt))) rfl) rfl) rfl⟩

section
variable (c : Dev nD) (i : grid0.Coords)
  (a0 : Memref sig .tc .vmem S1x256x512 .i8) (h0 : a0.IsWhole) (a1 : Memref sig .tc .vmem S1x256x64 .f32) (h1 : a1.IsWhole)
  (a2 : Memref sig .tc .vmem S1x2x512x256 .bf16) (h2 : a2.IsWhole) (x0 : Vec Ideal S1x256x512 .i8) (x1 : Vec Ideal S1x256x64 .f32)

/-- What the body leaves at block 0 of each half: the two halves, each scaled by its own eight groups. -/
theorem out0_A_2_eq (hc0 : cond0_0 i) (hc1 : ¬ cond0_1 i) (hc2 : ¬ cond0_2 i) (hc3 : ¬ cond0_3 i) (hc4 : cond0_4 i) (hc5 : ¬ cond0_5 i) (hc6 : ¬ cond0_6 i) (hc7 : ¬ cond0_7 i) :
    out0_A_2 c i a0 h0 a1 h1 a2 h2 hc0 hc1 hc2 hc3 hc4 hc5 hc6 hc7 x0 x1
      = halves (scaled 0 (codes0 x0 0) (k0_pay9 x1) slices_S64x256_o0_0_S8x256)
          (scaled 32 (codes0 x0 1) (k0_pay9 x1) slices_S64x256_o32_0_S8x256) := by
  unfold out0_A_2
  rw [View.read_writes_eq_canon _ _ _ (cover0_A_2 c i a0 h0 a1 h1 a2 h2 hc0 hc1 hc2 hc3 hc4 hc5 hc6 hc7 x0 x1)]
  unfold kernelRun0_A
  dsimp only
  sl_unfold_words
  simp only [View.readAt_eq_ld, h0.read_unread, h1.read_unread, View.ld_unit_zero (S := S1x256x512) hz3, View.ld_unit_zero (S := S1x256x64) hz3]
  exact canon_halves (k0_pay10 x0 x1) (k0_pay2 (k0_pay8 x0) (k0_pay9 x1)) _ _

/-- What the body leaves at block 1 of each half: the two halves, each scaled by its own eight groups. -/
theorem out0_B_2_eq (hc0 : ¬ cond0_0 i) (hc1 : cond0_1 i) (hc2 : ¬ cond0_2 i) (hc3 : ¬ cond0_3 i) (hc4 : ¬ cond0_4 i) (hc5 : cond0_5 i) (hc6 : ¬ cond0_6 i) (hc7 : ¬ cond0_7 i) :
    out0_B_2 c i a0 h0 a1 h1 a2 h2 hc0 hc1 hc2 hc3 hc4 hc5 hc6 hc7 x0 x1
      = halves (scaled 8 (codes0 x0 0) (k0_pay9 x1) slices_S64x256_o8_0_S8x256)
          (scaled 40 (codes0 x0 1) (k0_pay9 x1) slices_S64x256_o40_0_S8x256) := by
  unfold out0_B_2
  rw [View.read_writes_eq_canon _ _ _ (cover0_B_2 c i a0 h0 a1 h1 a2 h2 hc0 hc1 hc2 hc3 hc4 hc5 hc6 hc7 x0 x1)]
  unfold kernelRun0_B
  dsimp only
  sl_unfold_words
  simp only [View.readAt_eq_ld, h0.read_unread, h1.read_unread, View.ld_unit_zero (S := S1x256x512) hz3, View.ld_unit_zero (S := S1x256x64) hz3]
  exact canon_halves (k0_pay11 x0 x1) (k0_pay3 (k0_pay8 x0) (k0_pay9 x1)) _ _

/-- What the body leaves at block 2 of each half: the two halves, each scaled by its own eight groups. -/
theorem out0_C_2_eq (hc0 : ¬ cond0_0 i) (hc1 : ¬ cond0_1 i) (hc2 : cond0_2 i) (hc3 : ¬ cond0_3 i) (hc4 : ¬ cond0_4 i) (hc5 : ¬ cond0_5 i) (hc6 : cond0_6 i) (hc7 : ¬ cond0_7 i) :
    out0_C_2 c i a0 h0 a1 h1 a2 h2 hc0 hc1 hc2 hc3 hc4 hc5 hc6 hc7 x0 x1
      = halves (scaled 16 (codes0 x0 0) (k0_pay9 x1) slices_S64x256_o16_0_S8x256)
          (scaled 48 (codes0 x0 1) (k0_pay9 x1) slices_S64x256_o48_0_S8x256) := by
  unfold out0_C_2
  rw [View.read_writes_eq_canon _ _ _ (cover0_C_2 c i a0 h0 a1 h1 a2 h2 hc0 hc1 hc2 hc3 hc4 hc5 hc6 hc7 x0 x1)]
  unfold kernelRun0_C
  dsimp only
  sl_unfold_words
  simp only [View.readAt_eq_ld, h0.read_unread, h1.read_unread, View.ld_unit_zero (S := S1x256x512) hz3, View.ld_unit_zero (S := S1x256x64) hz3]
  exact canon_halves (k0_pay12 x0 x1) (k0_pay4 (k0_pay8 x0) (k0_pay9 x1)) _ _

/-- What the body leaves at block 3 of each half: the two halves, each scaled by its own eight groups. -/
theorem out0_D_2_eq (hc0 : ¬ cond0_0 i) (hc1 : ¬ cond0_1 i) (hc2 : ¬ cond0_2 i) (hc3 : cond0_3 i) (hc4 : ¬ cond0_4 i) (hc5 : ¬ cond0_5 i) (hc6 : ¬ cond0_6 i) (hc7 : cond0_7 i) :
    out0_D_2 c i a0 h0 a1 h1 a2 h2 hc0 hc1 hc2 hc3 hc4 hc5 hc6 hc7 x0 x1
      = halves (scaled 24 (codes0 x0 0) (k0_pay9 x1) slices_S64x256_o24_0_S8x256)
          (scaled 56 (codes0 x0 1) (k0_pay9 x1) slices_S64x256_o56_0_S8x256) := by
  unfold out0_D_2
  rw [View.read_writes_eq_canon _ _ _ (cover0_D_2 c i a0 h0 a1 h1 a2 h2 hc0 hc1 hc2 hc3 hc4 hc5 hc6 hc7 x0 x1)]
  unfold kernelRun0_D
  dsimp only
  sl_unfold_words
  simp only [View.readAt_eq_ld, h0.read_unread, h1.read_unread, View.ld_unit_zero (S := S1x256x512) hz3, View.ld_unit_zero (S := S1x256x64) hz3]
  exact canon_halves (k0_pay1 (k0_pay7 x0) (k0_pay9 x1)) (k0_pay5 (k0_pay8 x0) (k0_pay9 x1)) _ _

end

section
variable (V : (c : Dev nD) → (b : Ref sig .tc) → Buf (Elt Ideal) ((c : Thread nD τ).loc b))

/-- A block's entry after the body at any point: the code's half times the scale of its group. -/
theorem tile0 (c : Dev nD) (t : Fin cfg0.N) (h : Fin 2) (r : Fin 512) (s : Fin 256) (q : Fin 64)
    (hq : q.val = h.val * 32 + t.val % 4 * 8 + r.val / 64) :
    outsAt0 V c t.val t.isLt (ix4 0 h r s)
      = (nib h (iblk0 V c 0 t (ix3 0 s r) : BitVec 8) * (iblk0 V c 1 t (ix3 0 s q) : EReal) : EReal) := by
  have hh := h.isLt
  have key : ∀ (o0 o1 : ℕ) (w0 : (⟨2, ![64, 256]⟩ : Shape).Slices ![o0, 0] S8x256) (w1 : (⟨2, ![64, 256]⟩ : Shape).Slices ![o1, 0] S8x256),
      q.val = (if h = 0 then o0 else o1) + r.val / 64 →
      halves (scaled o0 (codes0 (iblk0 V c 0 t) 0) (k0_pay9 (iblk0 V c 1 t)) w0)
        (scaled o1 (codes0 (iblk0 V c 0 t) 1) (k0_pay9 (iblk0 V c 1 t)) w1) (ix4 0 h r s)
      = (nib h (iblk0 V c 0 t (ix3 0 s r) : BitVec 8) * (iblk0 V c 1 t (ix3 0 s q) : EReal) : EReal) := fun o0 o1 w0 w1 hq =>
    (halves_apply (codes0 (iblk0 V c 0 t)) (k0_pay9 (iblk0 V c 1 t)) o0 o1 w0 w1 h r s q hq).trans
      (congrArg₂ (fun a b : EReal => a * b) (codes0_apply (iblk0 V c 0 t) h r s) (k0_pay9_apply (iblk0 V c 1 t) q s))
  have hif : ∀ m : ℕ, t.val % 4 = m → q.val = (if h = 0 then 8 * m else 32 + 8 * m) + r.val / 64 := fun m hm => by
    match h, hq with
    | ⟨0, _⟩, hq => exact hq.trans (by show 0 * 32 + t.val % 4 * 8 + r.val / 64 = 8 * m + r.val / 64; omega)
    | ⟨1, _⟩, hq => exact hq.trans (by show 1 * 32 + t.val % 4 * 8 + r.val / 64 = 32 + 8 * m + r.val / 64; omega)
  obtain hm | hm | hm | hm : t.val % 4 = 0 ∨ t.val % 4 = 1 ∨ t.val % 4 = 2 ∨ t.val % 4 = 3 := by omega
  · rw [outsAt0_A V c t (by omega) (by omega) (by omega) (by omega) (by omega) (by omega) (by omega) (by omega), out0_A_2_eq]
    exact key 0 32 _ _ (hif 0 hm)
  · rw [outsAt0_B V c t (by omega) (by omega) (by omega) (by omega) (by omega) (by omega) (by omega) (by omega), out0_B_2_eq]
    exact key 8 40 _ _ (hif 1 hm)
  · rw [outsAt0_C V c t (by omega) (by omega) (by omega) (by omega) (by omega) (by omega) (by omega) (by omega), out0_C_2_eq]
    exact key 16 48 _ _ (hif 2 hm)
  · rw [outsAt0_D V c t (by omega) (by omega) (by omega) (by omega) (by omega) (by omega) (by omega) (by omega), out0_D_2_eq]
    exact key 24 56 _ _ (hif 3 hm)

/-- Which block each window of the region holds at the region's `t`-th point. -/
theorem at0 : ∀ t : Fin cfg0.N, (win0_0.index t 0 = t.val / 64 ∧ win0_0.index t 1 = t.val / 4 % 16 ∧ win0_0.index t 2 = t.val % 4)
    ∧ (win0_1.index t 0 = t.val / 64 ∧ win0_1.index t 1 = t.val / 4 % 16 ∧ win0_1.index t 2 = 0)
    ∧ (win0_2.index t 0 = t.val / 64 ∧ win0_2.index t 1 = 0 ∧ win0_2.index t 2 = t.val % 4 ∧ win0_2.index t 3 = t.val / 4 % 16) := by decide +kernel

/-- The left factor, decoded. -/
theorem decode_l (c : Dev nD) : (dat0 V c).arrAt 2 cfg0.N = fun y : S3x2x2048x4096.Idx => decoded (n := 4096) (half := 2048) (g := 64) rfl (rd (V c main_arg2 : S3x4096x2048.Idx → BitVec 8)) (rd (V c main_arg3 : Vec Ideal S3x4096x64 .f32)) (y 0) (y 1) (y 2) (y 3) := by
  have hN : cfg0.N = 192 := N_0
  refine (dat0 V c).arrAt_eq_of_cover 2 _ (fun t _ => ?_) (fun i => ?_)
  · show (cfg0.win 2).cut (grid0.coords t) ((dat0 V c).after 2 t) = _
    rw [after0_2]
    obtain ⟨⟨a0, a1, a2⟩, ⟨b0, b1, b2⟩, ⟨z0, z1, z2, z3⟩⟩ := at0 t
    funext y
    obtain ⟨h, r, s, rfl⟩ := one4' y
    show outsAt0 V c t.val t.isLt (ix4 0 h r s) = _
    have ht := t.isLt
    have hh := h.isLt
    have hr := r.isLt
    have hs := s.isLt
    obtain ⟨p, l, q, u, hp⟩ : ∃ (p : Fin 3) (l : Fin 2) (q : Fin 2048) (u : Fin 4096), (((cfg0.win 2).blk t).view.emb (ix4 0 h r s) : S3x2x2048x4096.Idx) = ix4 p l q u := ⟨_, _, _, _, eq_ix4 _⟩
    have p0 : win0_2.index t 0 * 1 + 1 * 0 = p.val := congrArg (fun j : S3x2x2048x4096.Idx => (j 0).val) hp
    have p1 : win0_2.index t 1 * 2 + 1 * h.val = l.val := congrArg (fun j : S3x2x2048x4096.Idx => (j 1).val) hp
    have p2 : win0_2.index t 2 * 512 + 1 * r.val = q.val := congrArg (fun j : S3x2x2048x4096.Idx => (j 2).val) hp
    have p3 : win0_2.index t 3 * 256 + 1 * s.val = u.val := congrArg (fun j : S3x2x2048x4096.Idx => (j 3).val) hp
    obtain rfl : h = l := Fin.ext (by omega)
    refine Eq.trans ?_ (congrArg (fun y : S3x2x2048x4096.Idx => decoded (n := 4096) (half := 2048) (g := 64) rfl (rd (V c main_arg2 : S3x4096x2048.Idx → BitVec 8)) (rd (V c main_arg3 : Vec Ideal S3x4096x64 .f32)) (y 0) (y 1) (y 2) (y 3)) hp).symm
    show _ = decoded (n := 4096) (half := 2048) (g := 64) rfl (rd (V c main_arg2 : S3x4096x2048.Idx → BitVec 8)) (rd (V c main_arg3 : Vec Ideal S3x4096x64 .f32)) p h q u
    have hg : (grp (half := 2048) (g := 64) rfl h q).val = (h.val * 2048 + q.val) / 64 := rfl
    have e0 : iblk0 V c 0 t (ix3 0 s r) = rd (V c main_arg2 : S3x4096x2048.Idx → BitVec 8) p u q :=
      congrArg (V c main_arg2) (ix3_ext
        (by show win0_0.index t 0 * 1 + 1 * 0 = p.val; omega)
        (by show win0_0.index t 1 * 256 + 1 * s.val = u.val; omega)
        (by show win0_0.index t 2 * 512 + 1 * r.val = q.val; omega))
    have e1 : iblk0 V c 1 t (ix3 0 s (grp (half := 2048) (g := 64) rfl h q)) = rd (V c main_arg3 : Vec Ideal S3x4096x64 .f32) p u (grp (half := 2048) (g := 64) rfl h q) :=
      congrArg (V c main_arg3) (ix3_ext
        (by show win0_1.index t 0 * 1 + 1 * 0 = p.val; omega)
        (by show win0_1.index t 1 * 256 + 1 * s.val = u.val; omega)
        (by show win0_1.index t 2 * 64 + 1 * (grp (half := 2048) (g := 64) rfl h q).val = (grp (half := 2048) (g := 64) rfl h q).val; omega))
    refine (tile0 V c t h r s (grp (half := 2048) (g := 64) rfl h q) (by omega)).trans ?_
    exact congrArg₂ (fun a b : EReal => a * b) (congrArg (nib h) e0) e1
  · have i0 : (i 0).val < 3 := (i 0).isLt
    have i1 : (i 1).val < 2 := (i 1).isLt
    have i2 : (i 2).val < 2048 := (i 2).isLt
    have i3 : (i 3).val < 4096 := (i 3).isLt
    let t : Fin cfg0.N := ⟨(i 0).val * 64 + (i 3).val / 256 * 4 + (i 2).val / 512, by omega⟩
    obtain ⟨-, -, ⟨z0, z1, z2, z3⟩⟩ := at0 t
    refine ⟨t, flush0_2 t, ?_⟩
    show i ∈ ((View.whole main_v0).slice (win0_2.rect t)).set
    rw [View.set_slice_whole, Rect.mem_set_unit]
    refine all4 ?_ ?_ ?_ ?_
    · show win0_2.index t 0 * 1 ≤ (i 0).val ∧ (i 0).val < win0_2.index t 0 * 1 + 1
      rw [z0]; dsimp only [t]; omega
    · show win0_2.index t 1 * 2 ≤ (i 1).val ∧ (i 1).val < win0_2.index t 1 * 2 + 2
      rw [z1]; omega
    · show win0_2.index t 2 * 512 ≤ (i 2).val ∧ (i 2).val < win0_2.index t 2 * 512 + 512
      rw [z2]; dsimp only [t]; omega
    · show win0_2.index t 3 * 256 ≤ (i 3).val ∧ (i 3).val < win0_2.index t 3 * 256 + 256
      rw [z3]; dsimp only [t]; omega

end

section
variable (c : Dev nD) (i : grid3.Coords)
  (a0 : Memref sig .tc .vmem S1x256x512 .i8) (h0 : a0.IsWhole) (a1 : Memref sig .tc .vmem S1x256x32 .f32) (h1 : a1.IsWhole)
  (a2 : Memref sig .tc .vmem S1x2x512x256 .bf16) (h2 : a2.IsWhole) (x0 : Vec Ideal S1x256x512 .i8) (x1 : Vec Ideal S1x256x32 .f32)

/-- What the body leaves at block 0 of each half: the two halves, each scaled by its own eight groups. -/
theorem out3_A_2_eq (hc0 : cond3_0 i) (hc1 : ¬ cond3_1 i) (hc2 : cond3_2 i) (hc3 : ¬ cond3_3 i) :
    out3_A_2 c i a0 h0 a1 h1 a2 h2 hc0 hc1 hc2 hc3 x0 x1
      = halves (scaled 0 (codes3 x0 0) (k3_pay5 x1) slices_S32x256_o0_0_S8x256)
          (scaled 16 (codes3 x0 1) (k3_pay5 x1) slices_S32x256_o16_0_S8x256) := by
  unfold out3_A_2
  rw [View.read_writes_eq_canon _ _ _ (cover3_A_2 c i a0 h0 a1 h1 a2 h2 hc0 hc1 hc2 hc3 x0 x1)]
  unfold kernelRun3_A
  dsimp only
  sl_unfold_words
  simp only [View.readAt_eq_ld, h0.read_unread, h1.read_unread, View.ld_unit_zero (S := S1x256x512) hz3, View.ld_unit_zero (S := S1x256x32) hz3]
  exact canon_halves (k3_pay6 x0 x1) (k3_pay8 x0 x1) _ _

/-- What the body leaves at block 1 of each half: the two halves, each scaled by its own eight groups. -/
theorem out3_B_2_eq (hc0 : ¬ cond3_0 i) (hc1 : cond3_1 i) (hc2 : ¬ cond3_2 i) (hc3 : cond3_3 i) :
    out3_B_2 c i a0 h0 a1 h1 a2 h2 hc0 hc1 hc2 hc3 x0 x1
      = halves (scaled 8 (codes3 x0 0) (k3_pay5 x1) slices_S32x256_o8_0_S8x256)
          (scaled 24 (codes3 x0 1) (k3_pay5 x1) slices_S32x256_o24_0_S8x256) := by
  unfold out3_B_2
  rw [View.read_writes_eq_canon _ _ _ (cover3_B_2 c i a0 h0 a1 h1 a2 h2 hc0 hc1 hc2 hc3 x0 x1)]
  unfold kernelRun3_B
  dsimp only
  sl_unfold_words
  simp only [View.readAt_eq_ld, h0.read_unread, h1.read_unread, View.ld_unit_zero (S := S1x256x512) hz3, View.ld_unit_zero (S := S1x256x32) hz3]
  exact canon_halves (k3_pay7 x0 x1) (k3_pay1 (k3_pay4 x0) (k3_pay5 x1)) _ _

end

section
variable (V : (c : Dev nD) → (b : Ref sig .tc) → Buf (Elt Ideal) ((c : Thread nD τ).loc b))

/-- A block's entry after the body at any point: the code's half times the scale of its group. -/
theorem tile3 (c : Dev nD) (t : Fin cfg3.N) (h : Fin 2) (r : Fin 512) (s : Fin 256) (q : Fin 32)
    (hq : q.val = h.val * 16 + t.val % 2 * 8 + r.val / 64) :
    outsAt3 V c t.val t.isLt (ix4 0 h r s)
      = (nib h (iblk3 V c 0 t (ix3 0 s r) : BitVec 8) * (iblk3 V c 1 t (ix3 0 s q) : EReal) : EReal) := by
  have hh := h.isLt
  have key : ∀ (o0 o1 : ℕ) (w0 : (⟨2, ![32, 256]⟩ : Shape).Slices ![o0, 0] S8x256) (w1 : (⟨2, ![32, 256]⟩ : Shape).Slices ![o1, 0] S8x256),
      q.val = (if h = 0 then o0 else o1) + r.val / 64 →
      halves (scaled o0 (codes3 (iblk3 V c 0 t) 0) (k3_pay5 (iblk3 V c 1 t)) w0)
        (scaled o1 (codes3 (iblk3 V c 0 t) 1) (k3_pay5 (iblk3 V c 1 t)) w1) (ix4 0 h r s)
      = (nib h (iblk3 V c 0 t (ix3 0 s r) : BitVec 8) * (iblk3 V c 1 t (ix3 0 s q) : EReal) : EReal) := fun o0 o1 w0 w1 hq =>
    (halves_apply (codes3 (iblk3 V c 0 t)) (k3_pay5 (iblk3 V c 1 t)) o0 o1 w0 w1 h r s q hq).trans
      (congrArg₂ (fun a b : EReal => a * b) (codes3_apply (iblk3 V c 0 t) h r s) (k3_pay5_apply (iblk3 V c 1 t) q s))
  have hif : ∀ m : ℕ, t.val % 2 = m → q.val = (if h = 0 then 8 * m else 16 + 8 * m) + r.val / 64 := fun m hm => by
    match h, hq with
    | ⟨0, _⟩, hq => exact hq.trans (by show 0 * 16 + t.val % 2 * 8 + r.val / 64 = 8 * m + r.val / 64; omega)
    | ⟨1, _⟩, hq => exact hq.trans (by show 1 * 16 + t.val % 2 * 8 + r.val / 64 = 16 + 8 * m + r.val / 64; omega)
  obtain hm | hm : t.val % 2 = 0 ∨ t.val % 2 = 1 := by omega
  · rw [outsAt3_A V c t (by omega) (by omega) (by omega) (by omega), out3_A_2_eq]
    exact key 0 16 _ _ (hif 0 hm)
  · rw [outsAt3_B V c t (by omega) (by omega) (by omega) (by omega), out3_B_2_eq]
    exact key 8 24 _ _ (hif 1 hm)

/-- Which block each window of the region holds at the region's `t`-th point. -/
theorem at3 : ∀ t : Fin cfg3.N, (win3_0.index t 0 = t.val / 16 ∧ win3_0.index t 1 = t.val / 2 % 8 ∧ win3_0.index t 2 = t.val % 2)
    ∧ (win3_1.index t 0 = t.val / 16 ∧ win3_1.index t 1 = t.val / 2 % 8 ∧ win3_1.index t 2 = 0)
    ∧ (win3_2.index t 0 = t.val / 16 ∧ win3_2.index t 1 = 0 ∧ win3_2.index t 2 = t.val % 2 ∧ win3_2.index t 3 = t.val / 2 % 8) := by decide +kernel

/-- The right factor, decoded. -/
theorem decode_r (c : Dev nD) : (dat3 V c).arrAt 2 cfg3.N = fun y : S3x2x1024x2048.Idx => decoded (n := 2048) (half := 1024) (g := 32) rfl (rd (V c main_arg5 : S3x2048x1024.Idx → BitVec 8)) (rd (V c main_arg6 : Vec Ideal S3x2048x32 .f32)) (y 0) (y 1) (y 2) (y 3) := by
  have hN : cfg3.N = 48 := N_3
  refine (dat3 V c).arrAt_eq_of_cover 2 _ (fun t _ => ?_) (fun i => ?_)
  · show (cfg3.win 2).cut (grid3.coords t) ((dat3 V c).after 2 t) = _
    rw [after3_2]
    obtain ⟨⟨a0, a1, a2⟩, ⟨b0, b1, b2⟩, ⟨z0, z1, z2, z3⟩⟩ := at3 t
    funext y
    obtain ⟨h, r, s, rfl⟩ := one4' y
    show outsAt3 V c t.val t.isLt (ix4 0 h r s) = _
    have ht := t.isLt
    have hh := h.isLt
    have hr := r.isLt
    have hs := s.isLt
    obtain ⟨p, l, q, u, hp⟩ : ∃ (p : Fin 3) (l : Fin 2) (q : Fin 1024) (u : Fin 2048), (((cfg3.win 2).blk t).view.emb (ix4 0 h r s) : S3x2x1024x2048.Idx) = ix4 p l q u := ⟨_, _, _, _, eq_ix4 _⟩
    have p0 : win3_2.index t 0 * 1 + 1 * 0 = p.val := congrArg (fun j : S3x2x1024x2048.Idx => (j 0).val) hp
    have p1 : win3_2.index t 1 * 2 + 1 * h.val = l.val := congrArg (fun j : S3x2x1024x2048.Idx => (j 1).val) hp
    have p2 : win3_2.index t 2 * 512 + 1 * r.val = q.val := congrArg (fun j : S3x2x1024x2048.Idx => (j 2).val) hp
    have p3 : win3_2.index t 3 * 256 + 1 * s.val = u.val := congrArg (fun j : S3x2x1024x2048.Idx => (j 3).val) hp
    obtain rfl : h = l := Fin.ext (by omega)
    refine Eq.trans ?_ (congrArg (fun y : S3x2x1024x2048.Idx => decoded (n := 2048) (half := 1024) (g := 32) rfl (rd (V c main_arg5 : S3x2048x1024.Idx → BitVec 8)) (rd (V c main_arg6 : Vec Ideal S3x2048x32 .f32)) (y 0) (y 1) (y 2) (y 3)) hp).symm
    show _ = decoded (n := 2048) (half := 1024) (g := 32) rfl (rd (V c main_arg5 : S3x2048x1024.Idx → BitVec 8)) (rd (V c main_arg6 : Vec Ideal S3x2048x32 .f32)) p h q u
    have hg : (grp (half := 1024) (g := 32) rfl h q).val = (h.val * 1024 + q.val) / 64 := rfl
    have e0 : iblk3 V c 0 t (ix3 0 s r) = rd (V c main_arg5 : S3x2048x1024.Idx → BitVec 8) p u q :=
      congrArg (V c main_arg5) (ix3_ext
        (by show win3_0.index t 0 * 1 + 1 * 0 = p.val; omega)
        (by show win3_0.index t 1 * 256 + 1 * s.val = u.val; omega)
        (by show win3_0.index t 2 * 512 + 1 * r.val = q.val; omega))
    have e1 : iblk3 V c 1 t (ix3 0 s (grp (half := 1024) (g := 32) rfl h q)) = rd (V c main_arg6 : Vec Ideal S3x2048x32 .f32) p u (grp (half := 1024) (g := 32) rfl h q) :=
      congrArg (V c main_arg6) (ix3_ext
        (by show win3_1.index t 0 * 1 + 1 * 0 = p.val; omega)
        (by show win3_1.index t 1 * 256 + 1 * s.val = u.val; omega)
        (by show win3_1.index t 2 * 32 + 1 * (grp (half := 1024) (g := 32) rfl h q).val = (grp (half := 1024) (g := 32) rfl h q).val; omega))
    refine (tile3 V c t h r s (grp (half := 1024) (g := 32) rfl h q) (by omega)).trans ?_
    exact congrArg₂ (fun a b : EReal => a * b) (congrArg (nib h) e0) e1
  · have i0 : (i 0).val < 3 := (i 0).isLt
    have i1 : (i 1).val < 2 := (i 1).isLt
    have i2 : (i 2).val < 1024 := (i 2).isLt
    have i3 : (i 3).val < 2048 := (i 3).isLt
    let t : Fin cfg3.N := ⟨(i 0).val * 16 + (i 3).val / 256 * 2 + (i 2).val / 512, by omega⟩
    obtain ⟨-, -, ⟨z0, z1, z2, z3⟩⟩ := at3 t
    refine ⟨t, flush3_2 t, ?_⟩
    show i ∈ ((View.whole main_v4).slice (win3_2.rect t)).set
    rw [View.set_slice_whole, Rect.mem_set_unit]
    refine all4 ?_ ?_ ?_ ?_
    · show win3_2.index t 0 * 1 ≤ (i 0).val ∧ (i 0).val < win3_2.index t 0 * 1 + 1
      rw [z0]; dsimp only [t]; omega
    · show win3_2.index t 1 * 2 ≤ (i 1).val ∧ (i 1).val < win3_2.index t 1 * 2 + 2
      rw [z1]; omega
    · show win3_2.index t 2 * 512 ≤ (i 2).val ∧ (i 2).val < win3_2.index t 2 * 512 + 512
      rw [z2]; dsimp only [t]; omega
    · show win3_2.index t 3 * 256 ≤ (i 3).val ∧ (i 3).val < win3_2.index t 3 * 256 + 256
      rw [z3]; dsimp only [t]; omega

end

end Cert.Proof

end
-- ==== Proof.Tiles.lean ====
/- One tile of each product region, read at an index: what the body stores, as a sum over the contracted axis. -/
module

public import proofs.«01_k».proof.Proof.Plain
public import proofs.«01_k».proof.Proof.Math
public import proofs.«01_k».proof.Proof.Gen.KernelIdeal.Skeleton

@[expose] public section

noncomputable section

namespace Cert.Proof

open Idealize.ShloMosaic Idealize.ShloMosaic.ValueIdx Idealize.ShloMosaic.TcCoe
open Cert.KernelIdeal Cert.KernelIdeal.Gen

/-- A column of one entry per row, spread over the columns. -/
theorem spread_col {α : Type} {a b : ℕ} (v : (⟨2, ![a, 1]⟩ : Shape).Idx → α)
    (h : (⟨2, ![a, 1]⟩ : Shape).Broadcasts ⟨2, ![a, b]⟩) (ha : a ≠ 1) (r : Fin a) (c : Fin b) :
    broadcastTo ⟨2, ![a, b]⟩ v h (ix2 r c) = v (ix2 r 0) := by
  refine broadcastTo_apply v h _ _ fun d => ?_
  match d with
  | ⟨0, _⟩ => show r.val = if a = 1 then 0 else r.val; rw [if_neg ha]
  | ⟨1, _⟩ => rfl

/-- The corrected tile: its own entry less half a row of the gram matrix times a column of the factor. -/
theorem k2_pay1_apply (x0 : Vec Ideal S1x1024x4096 .bf16) (x1 : Vec Ideal S1x4096x1024 .bf16) (x2 : Vec Ideal S1x1024x1024 .bf16)
    (r c : Fin 1024) : k2_pay1 x0 x1 x2 (ix3 0 r c)
      = (x2 (ix3 0 r c) - half * ∑ k : Fin 4096, (x0 (ix3 0 r k) * x1 (ix3 0 k c) : EReal) : EReal) := by
  unfold k2_pay1
  rw [cast_add, truncf_apply, subf_apply, extf_apply, mulf_apply, broadcast_apply]
  have hm : matmul (F := Ideal) dot_S1024x4096_S4096x1024_S1024x1024_1_0_0_1_n_n none
      (shapeCast S1024x4096 x0 shapeCasts_S1x1024x4096_S1024x4096) (shapeCast S4096x1024 x1 shapeCasts_S1x4096x1024_S4096x1024)
      (constant S1024x1024 .f32 0x00000000#32) (ix2 r c) = (_ : EReal) :=
    mm_nn (φ₁ := .bf16) (φ₂ := .bf16) x0 x1 shapeCasts_S1x1024x4096_S1024x4096 shapeCasts_S1x4096x1024_S4096x1024 r c
  rw [hm]
  refine (congrArg (fun a : EReal => a - half * _) (cast_drop x2 shapeCasts_S1x1024x1024_S1024x1024 r c))

/-- The same for the right factor. -/
theorem k5_pay1_apply (x0 : Vec Ideal S1x1024x2048 .bf16) (x1 : Vec Ideal S1x2048x1024 .bf16) (x2 : Vec Ideal S1x1024x1024 .bf16)
    (r c : Fin 1024) : k5_pay1 x0 x1 x2 (ix3 0 r c)
      = (x2 (ix3 0 r c) - half * ∑ k : Fin 2048, (x0 (ix3 0 r k) * x1 (ix3 0 k c) : EReal) : EReal) := by
  unfold k5_pay1
  rw [cast_add, truncf_apply, subf_apply, extf_apply, mulf_apply, broadcast_apply]
  have hm : matmul (F := Ideal) dot_S1024x2048_S2048x1024_S1024x1024_1_0_0_1_n_n none
      (shapeCast S1024x2048 x0 shapeCasts_S1x1024x2048_S1024x2048) (shapeCast S2048x1024 x1 shapeCasts_S1x2048x1024_S2048x1024)
      (constant S1024x1024 .f32 0x00000000#32) (ix2 r c) = (_ : EReal) :=
    mm_nn (φ₁ := .bf16) (φ₂ := .bf16) x0 x1 shapeCasts_S1x1024x2048_S1024x2048 shapeCasts_S1x2048x1024_S2048x1024 r c
  rw [hm]
  refine (congrArg (fun a : EReal => a - half * _) (cast_drop x2 shapeCasts_S1x1024x1024_S1024x1024 r c))

/-- A tile of rows turned by the left factor, each row damped. -/
theorem k6_pay1_apply (x0 : Vec Ideal S1x1024x4096 .bf16) (x1 : Vec Ideal S1x4096x1024 .bf16) (x2 : Vec Ideal S1x1024x1 .f32)
    (r c : Fin 1024) : k6_pay1 x0 x1 x2 (ix3 0 r c)
      = ((∑ k : Fin 4096, (x0 (ix3 0 r k) * x1 (ix3 0 k c) : EReal)) * damp (x2 (ix3 0 r 0)) : EReal) := by
  unfold k6_pay1
  rw [cast_add, truncf_apply, mulf_apply]
  have hm : matmul (F := Ideal) dot_S1024x4096_S4096x1024_S1024x1024_1_0_0_1_n_n none
      (shapeCast S1024x4096 x0 shapeCasts_S1x1024x4096_S1024x4096) (shapeCast S4096x1024 x1 shapeCasts_S1x4096x1024_S4096x1024)
      (constant S1024x1024 .f32 0x00000000#32) (ix2 r c) = (_ : EReal) :=
    mm_nn (φ₁ := .bf16) (φ₂ := .bf16) x0 x1 shapeCasts_S1x1024x4096_S1024x4096 shapeCasts_S1x4096x1024_S4096x1024 r c
  rw [hm]
  refine congrArg (fun a : EReal => (∑ k : Fin 4096, (x0 (ix3 0 r k) * x1 (ix3 0 k c) : EReal)) * a) ?_
  refine (spread_col _ broadcasts_S1024x1_S1024x1024 (by omega) r c).trans ?_
  exact congrArg (fun a : EReal => damp a) (cast_drop x2 shapeCasts_S1x1024x1_S1024x1 r 0)

/-- A tile of rows of the right factor against rows of the turned gradient, each row damped. -/
theorem k7_pay1_apply (x0 x1 : Vec Ideal S1x1024x2048 .bf16) (x2 : Vec Ideal S1x1024x1 .f32)
    (r c : Fin 1024) : k7_pay1 x0 x1 x2 (ix3 0 r c)
      = ((∑ k : Fin 2048, (x0 (ix3 0 r k) * x1 (ix3 0 c k) : EReal)) * damp (x2 (ix3 0 r 0)) : EReal) := by
  unfold k7_pay1
  rw [cast_add, truncf_apply, mulf_apply]
  have hm : matmul (F := Ideal) dot_S1024x2048_S1024x2048_S1024x1024_1_1_0_0_n_n none
      (shapeCast S1024x2048 x0 shapeCasts_S1x1024x2048_S1024x2048) (shapeCast S1024x2048 x1 shapeCasts_S1x1024x2048_S1024x2048)
      (constant S1024x1024 .f32 0x00000000#32) (ix2 r c) = (_ : EReal) :=
    mm_nt (φ₁ := .bf16) (φ₂ := .bf16) x0 x1 shapeCasts_S1x1024x2048_S1024x2048 shapeCasts_S1x1024x2048_S1024x2048 r c
  rw [hm]
  refine congrArg (fun a : EReal => (∑ k : Fin 2048, (x0 (ix3 0 r k) * x1 (ix3 0 c k) : EReal)) * a) ?_
  refine (spread_col _ broadcasts_S1024x1_S1024x1024 (by omega) r c).trans ?_
  exact congrArg (fun a : EReal => damp a) (cast_drop x2 shapeCasts_S1x1024x1_S1024x1 r 0)

/-- A product tile stored with its two axes exchanged. -/
theorem k8_pay1_apply (x0 : Vec Ideal S1x1024x4096 .bf16) (x1 : Vec Ideal S1x4096x1024 .bf16)
    (r c : Fin 1024) : k8_pay1 x0 x1 (ix3 0 r c)
      = (∑ k : Fin 4096, (x0 (ix3 0 c k) * x1 (ix3 0 k r) : EReal) : EReal) := by
  unfold k8_pay1
  rw [cast_add]
  refine (transpose_apply [1, 0] _ transposes_S1024x1024_p1_0_S1024x1024 (ix2 r c) (ix2 c r) fun d => ?_).trans
    (mm_nn (φ₁ := .bf16) (φ₂ := .bf16) x0 x1 shapeCasts_S1x1024x4096_S1024x4096 shapeCasts_S1x4096x1024_S4096x1024 c r)
  match d with
  | ⟨0, _⟩ => rfl
  | ⟨1, _⟩ => rfl

/-- The preconditioned gradient's tile. -/
theorem k9_pay1_apply (x0 : Vec Ideal S1x1024x2048 .bf16) (x1 : Vec Ideal S1x2048x1024 .bf16)
    (r c : Fin 1024) : k9_pay1 x0 x1 (ix2 r c) = (∑ k : Fin 2048, (x0 (ix3 0 r k) * x1 (ix3 0 k c) : EReal) : EReal) :=
  mm_nn (φ₁ := .bf16) (φ₂ := .bf16) x0 x1 shapeCasts_S1x1024x2048_S1024x2048 shapeCasts_S1x2048x1024_S2048x1024 r c

end Cert.Proof

end
-- ==== Proof.Gram.lean ====
/- The gram matrix of each decoded factor, less the identity: the array the region leaves. -/
module

public import proofs.«01_k».proof.Proof.Math
public import proofs.«01_k».proof.Proof.Tiles
public import proofs.«01_k».proof.Proof.Gen.KernelIdeal.Frame.Region1
public import proofs.«01_k».proof.Proof.Gen.KernelIdeal.Frame.Region4

@[expose] public section

noncomputable section

namespace Cert.Proof

open Idealize.ShloMosaic Idealize.ShloMosaic.ValueIdx Idealize.ShloMosaic.TcCoe
open Cert.KernelIdeal Cert.KernelIdeal.Gen

/-- The tile's diagonal test, on words, is the test on the whole array's coordinates. -/
theorem diag_select (i j : ℕ) (r c : Fin 1024) (hi : i < 4) (hj : j < 4) (x z : EReal)
    (h0 : S1024x1024.Iotas .tc 32 [0]) (h1 : S1024x1024.Iotas .tc 32 [1]) :
    Scalar.select (cmpi .eq (addi (broadcast S1024x1024 (Scalar.muli (BitVec.ofNat 32 i) 1024#32)) (iota .tc S1024x1024 32 [0] h0))
      (addi (broadcast S1024x1024 (Scalar.muli (BitVec.ofNat 32 j) 1024#32)) (iota .tc S1024x1024 32 [1] h1)) (ix2 r c)) x z
      = if i * 1024 + r.val = j * 1024 + c.val then x else z := by
  have e : ∀ a b : ℕ, BitVec.ofNat 32 a * 1024#32 + BitVec.ofNat 32 b = BitVec.ofNat 32 (a * 1024 + b) := fun a b => by
    apply BitVec.eq_of_toNat_eq; simp [BitVec.toNat_add, BitVec.toNat_mul]
  show Scalar.select (IntOp.cmpi .eq (BitVec.ofNat 32 i * 1024#32 + iota .tc S1024x1024 32 [0] h0 (ix2 r c))
    (BitVec.ofNat 32 j * 1024#32 + iota .tc S1024x1024 32 [1] h1 (ix2 r c))) x z = _
  rw [iota_single_apply, iota_single_apply, e, e]
  have hr := r.isLt
  have hc := c.isLt
  show Scalar.select (IntOp.cmpi .eq (BitVec.ofNat 32 (i * 1024 + r.val)) (BitVec.ofNat 32 (j * 1024 + c.val))) x z = _
  by_cases h : i * 1024 + r.val = j * 1024 + c.val
  · rw [if_pos h, (WordCmp.cmpi_eq_ofNat_eq_one_iff (by omega) (by omega)).2 h, select_one]
  · rw [if_neg h, eq_zero_of_ne_one (fun h' => h ((WordCmp.cmpi_eq_ofNat_eq_one_iff (by omega) (by omega)).1 h')), select_zero]

/-- A tile of the gram matrix: rows against rows, one less on the whole matrix's diagonal. -/
theorem k1_pay1_apply (i : grid1.Coords) (x0 x1 : Vec Ideal S1x1024x4096 .bf16) (r c : Fin 1024) :
    k1_pay1 i x0 x1 (ix3 0 r c) = if (i 2).val * 1024 + r.val = (i 1).val * 1024 + c.val
      then (∑ k : Fin 4096, (x0 (ix3 0 r k) * x1 (ix3 0 c k) : EReal)) - 1
      else ∑ k : Fin 4096, x0 (ix3 0 r k) * x1 (ix3 0 c k) := by
  unfold k1_pay1
  dsimp only
  rw [cast_add, truncf_apply, select_apply, subf_apply, broadcast_apply]
  have hm : matmul (F := Ideal) dot_S1024x4096_S1024x4096_S1024x1024_1_1_0_0_n_n none
      (shapeCast S1024x4096 x0 shapeCasts_S1x1024x4096_S1024x4096) (shapeCast S1024x4096 x1 shapeCasts_S1x1024x4096_S1024x4096)
      (constant S1024x1024 .f32 0x00000000#32) (ix2 r c) = (_ : EReal) :=
    mm_nt (φ₁ := .bf16) (φ₂ := .bf16) x0 x1 shapeCasts_S1x1024x4096_S1024x4096 shapeCasts_S1x1024x4096_S1024x4096 r c
  have hi : (i 2).val < 4 := lt_of_lt_of_le (i 2).isLt (by decide)
  have hj : (i 1).val < 4 := lt_of_lt_of_le (i 1).isLt (by decide)
  refine (diag_select (i 2).val (i 1).val r c hi hj _ _ _ _).trans ?_
  rw [hm, show (Scalar.ofBits .f32 0x3F800000#32 : Ideal .f32) = (1 : EReal) from Ideal.ofBits_one_f32]

/-- A tile of the gram matrix: rows against rows, one less on the whole matrix's diagonal. -/
theorem k4_pay1_apply (i : grid4.Coords) (x0 x1 : Vec Ideal S1x1024x2048 .bf16) (r c : Fin 1024) :
    k4_pay1 i x0 x1 (ix3 0 r c) = if (i 2).val * 1024 + r.val = (i 1).val * 1024 + c.val
      then (∑ k : Fin 2048, (x0 (ix3 0 r k) * x1 (ix3 0 c k) : EReal)) - 1
      else ∑ k : Fin 2048, x0 (ix3 0 r k) * x1 (ix3 0 c k) := by
  unfold k4_pay1
  dsimp only
  rw [cast_add, truncf_apply, select_apply, subf_apply, broadcast_apply]
  have hm : matmul (F := Ideal) dot_S1024x2048_S1024x2048_S1024x1024_1_1_0_0_n_n none
      (shapeCast S1024x2048 x0 shapeCasts_S1x1024x2048_S1024x2048) (shapeCast S1024x2048 x1 shapeCasts_S1x1024x2048_S1024x2048)
      (constant S1024x1024 .f32 0x00000000#32) (ix2 r c) = (_ : EReal) :=
    mm_nt (φ₁ := .bf16) (φ₂ := .bf16) x0 x1 shapeCasts_S1x1024x2048_S1024x2048 shapeCasts_S1x1024x2048_S1024x2048 r c
  have hi : (i 2).val < 4 := lt_of_lt_of_le (i 2).isLt (by decide)
  have hj : (i 1).val < 4 := lt_of_lt_of_le (i 1).isLt (by decide)
  refine (diag_select (i 2).val (i 1).val r c hi hj _ _ _ _).trans ?_
  rw [hm, show (Scalar.ofBits .f32 0x3F800000#32 : Ideal .f32) = (1 : EReal) from Ideal.ofBits_one_f32]

variable (V : (c : Dev nD) → (b : Ref sig .tc) → Buf (Elt Ideal) ((c : Thread nD τ).loc b))

/-- Which block each window of the region holds at the region's `t`-th point. -/
theorem at1 : ∀ t : Fin cfg1.N, (win1_0.index t 0 = t.val / 16 ∧ win1_0.index t 1 = t.val % 4 ∧ win1_0.index t 2 = 0)
    ∧ (win1_1.index t 0 = t.val / 16 ∧ win1_1.index t 1 = t.val / 4 % 4 ∧ win1_1.index t 2 = 0)
    ∧ (win1_2.index t 0 = t.val / 16 ∧ win1_2.index t 1 = t.val % 4 ∧ win1_2.index t 2 = t.val / 4 % 4)
    ∧ (grid1.coords t 1).val = t.val / 4 % 4
    ∧ (grid1.coords t 2).val = t.val % 4 := by decide +kernel

/-- The left factor's. -/
theorem gram_l (c : Dev nD) : (dat1 V c).arrAt 2 cfg1.N = fun y : S3x4096x4096.Idx => gram (rd (V c main_v1 : Vec Ideal S3x4096x4096 .bf16)) (y 0) (y 1) (y 2) := by
  have hN : cfg1.N = 48 := N_1
  refine (dat1 V c).arrAt_eq_of_cover 2 _ (fun t _ => ?_) (fun i => ?_)
  · show (cfg1.win 2).cut (grid1.coords t) ((dat1 V c).after 2 t) = _
    rw [after1_2]
    unfold out1_2
    rw [View.canon_unit_zero hz3, View.ld_unit_zero hz3, View.ld_unit_zero hz3]
    obtain ⟨⟨a0, a1, a2⟩, ⟨b0, b1, b2⟩, ⟨z0, z1, z2⟩, g1, g2⟩ := at1 t
    funext y
    obtain ⟨r, s, rfl⟩ := one3 y
    show k1_pay1 (grid1.coords t) (iblk1 V c 0 t) (iblk1 V c 1 t) (ix3 0 r s) = _
    have ht := t.isLt
    have hr := r.isLt
    have hs := s.isLt
    obtain ⟨p, q, u, hp⟩ : ∃ (p : Fin 3) (q : Fin 4096) (u : Fin 4096), (((cfg1.win 2).blk t).view.emb (ix3 0 r s) : S3x4096x4096.Idx) = ix3 p q u := ⟨_, _, _, eq_ix3 _⟩
    have p0 : win1_2.index t 0 * 1 + 1 * 0 = p.val := congrArg (fun j : S3x4096x4096.Idx => (j 0).val) hp
    have p1 : win1_2.index t 1 * 1024 + 1 * r.val = q.val := congrArg (fun j : S3x4096x4096.Idx => (j 1).val) hp
    have p2 : win1_2.index t 2 * 1024 + 1 * s.val = u.val := congrArg (fun j : S3x4096x4096.Idx => (j 2).val) hp
    refine Eq.trans ?_ (congrArg (fun y : S3x4096x4096.Idx => gram (rd (V c main_v1 : Vec Ideal S3x4096x4096 .bf16)) (y 0) (y 1) (y 2)) hp).symm
    show _ = gram (rd (V c main_v1 : Vec Ideal S3x4096x4096 .bf16)) p q u
    have e0 : ∀ k : Fin 4096, iblk1 V c 0 t (ix3 0 r k) = rd (V c main_v1 : Vec Ideal S3x4096x4096 .bf16) p q k := fun k =>
      congrArg (V c main_v1) (ix3_ext
        (by show win1_0.index t 0 * 1 + 1 * 0 = p.val; omega)
        (by show win1_0.index t 1 * 1024 + 1 * r.val = q.val; omega)
        (by show win1_0.index t 2 * 4096 + 1 * k.val = k.val; omega))
    have e1 : ∀ k : Fin 4096, iblk1 V c 1 t (ix3 0 s k) = rd (V c main_v1 : Vec Ideal S3x4096x4096 .bf16) p u k := fun k =>
      congrArg (V c main_v1) (ix3_ext
        (by show win1_1.index t 0 * 1 + 1 * 0 = p.val; omega)
        (by show win1_1.index t 1 * 1024 + 1 * s.val = u.val; omega)
        (by show win1_1.index t 2 * 4096 + 1 * k.val = k.val; omega))
    have e2 : ((grid1.coords t 2).val * 1024 + r.val = (grid1.coords t 1).val * 1024 + s.val) ↔ q = u := by
      rw [Fin.ext_iff]; omega
    refine (k1_pay1_apply (grid1.coords t) (iblk1 V c 0 t) (iblk1 V c 1 t) r s).trans ?_
    have hsum := Finset.sum_congr (rfl : (Finset.univ : Finset (Fin 4096)) = _) fun k _ => congr (congrArg (fun a b : EReal => a * b) (e0 k)) (e1 k)
    unfold gram
    exact if_congr e2 (congrArg (fun a : EReal => a - 1) hsum) hsum
  · have i0 : (i 0).val < 3 := (i 0).isLt
    have i1 : (i 1).val < 4096 := (i 1).isLt
    have i2 : (i 2).val < 4096 := (i 2).isLt
    let t : Fin cfg1.N := ⟨(i 0).val * 16 + (i 2).val / 1024 * 4 + (i 1).val / 1024, by omega⟩
    obtain ⟨-, -, ⟨z0, z1, z2⟩, -⟩ := at1 t
    refine ⟨t, flush1_2 t, ?_⟩
    show i ∈ ((View.whole main_v2).slice (win1_2.rect t)).set
    rw [View.set_slice_whole, Rect.mem_set_unit]
    refine all3 ?_ ?_ ?_
    · show win1_2.index t 0 * 1 ≤ (i 0).val ∧ (i 0).val < win1_2.index t 0 * 1 + 1
      rw [z0]; dsimp only [t]; omega
    · show win1_2.index t 1 * 1024 ≤ (i 1).val ∧ (i 1).val < win1_2.index t 1 * 1024 + 1024
      rw [z1]; dsimp only [t]; omega
    · show win1_2.index t 2 * 1024 ≤ (i 2).val ∧ (i 2).val < win1_2.index t 2 * 1024 + 1024
      rw [z2]; dsimp only [t]; omega

/-- Which block each window of the region holds at the region's `t`-th point. -/
theorem at4 : ∀ t : Fin cfg4.N, (win4_0.index t 0 = t.val / 4 ∧ win4_0.index t 1 = t.val % 2 ∧ win4_0.index t 2 = 0)
    ∧ (win4_1.index t 0 = t.val / 4 ∧ win4_1.index t 1 = t.val / 2 % 2 ∧ win4_1.index t 2 = 0)
    ∧ (win4_2.index t 0 = t.val / 4 ∧ win4_2.index t 1 = t.val % 2 ∧ win4_2.index t 2 = t.val / 2 % 2)
    ∧ (grid4.coords t 1).val = t.val / 2 % 2
    ∧ (grid4.coords t 2).val = t.val % 2 := by decide +kernel

/-- The right factor's. -/
theorem gram_r (c : Dev nD) : (dat4 V c).arrAt 2 cfg4.N = fun y : S3x2048x2048.Idx => gram (rd (V c main_v5 : Vec Ideal S3x2048x2048 .bf16)) (y 0) (y 1) (y 2) := by
  have hN : cfg4.N = 12 := N_4
  refine (dat4 V c).arrAt_eq_of_cover 2 _ (fun t _ => ?_) (fun i => ?_)
  · show (cfg4.win 2).cut (grid4.coords t) ((dat4 V c).after 2 t) = _
    rw [after4_2]
    unfold out4_2
    rw [View.canon_unit_zero hz3, View.ld_unit_zero hz3, View.ld_unit_zero hz3]
    obtain ⟨⟨a0, a1, a2⟩, ⟨b0, b1, b2⟩, ⟨z0, z1, z2⟩, g1, g2⟩ := at4 t
    funext y
    obtain ⟨r, s, rfl⟩ := one3 y
    show k4_pay1 (grid4.coords t) (iblk4 V c 0 t) (iblk4 V c 1 t) (ix3 0 r s) = _
    have ht := t.isLt
    have hr := r.isLt
    have hs := s.isLt
    obtain ⟨p, q, u, hp⟩ : ∃ (p : Fin 3) (q : Fin 2048) (u : Fin 2048), (((cfg4.win 2).blk t).view.emb (ix3 0 r s) : S3x2048x2048.Idx) = ix3 p q u := ⟨_, _, _, eq_ix3 _⟩
    have p0 : win4_2.index t 0 * 1 + 1 * 0 = p.val := congrArg (fun j : S3x2048x2048.Idx => (j 0).val) hp
    have p1 : win4_2.index t 1 * 1024 + 1 * r.val = q.val := congrArg (fun j : S3x2048x2048.Idx => (j 1).val) hp
    have p2 : win4_2.index t 2 * 1024 + 1 * s.val = u.val := congrArg (fun j : S3x2048x2048.Idx => (j 2).val) hp
    refine Eq.trans ?_ (congrArg (fun y : S3x2048x2048.Idx => gram (rd (V c main_v5 : Vec Ideal S3x2048x2048 .bf16)) (y 0) (y 1) (y 2)) hp).symm
    show _ = gram (rd (V c main_v5 : Vec Ideal S3x2048x2048 .bf16)) p q u
    have e0 : ∀ k : Fin 2048, iblk4 V c 0 t (ix3 0 r k) = rd (V c main_v5 : Vec Ideal S3x2048x2048 .bf16) p q k := fun k =>
      congrArg (V c main_v5) (ix3_ext
        (by show win4_0.index t 0 * 1 + 1 * 0 = p.val; omega)
        (by show win4_0.index t 1 * 1024 + 1 * r.val = q.val; omega)
        (by show win4_0.index t 2 * 2048 + 1 * k.val = k.val; omega))
    have e1 : ∀ k : Fin 2048, iblk4 V c 1 t (ix3 0 s k) = rd (V c main_v5 : Vec Ideal S3x2048x2048 .bf16) p u k := fun k =>
      congrArg (V c main_v5) (ix3_ext
        (by show win4_1.index t 0 * 1 + 1 * 0 = p.val; omega)
        (by show win4_1.index t 1 * 1024 + 1 * s.val = u.val; omega)
        (by show win4_1.index t 2 * 2048 + 1 * k.val = k.val; omega))
    have e2 : ((grid4.coords t 2).val * 1024 + r.val = (grid4.coords t 1).val * 1024 + s.val) ↔ q = u := by
      rw [Fin.ext_iff]; omega
    refine (k4_pay1_apply (grid4.coords t) (iblk4 V c 0 t) (iblk4 V c 1 t) r s).trans ?_
    have hsum := Finset.sum_congr (rfl : (Finset.univ : Finset (Fin 2048)) = _) fun k _ => congr (congrArg (fun a b : EReal => a * b) (e0 k)) (e1 k)
    unfold gram
    exact if_congr e2 (congrArg (fun a : EReal => a - 1) hsum) hsum
  · have i0 : (i 0).val < 3 := (i 0).isLt
    have i1 : (i 1).val < 2048 := (i 1).isLt
    have i2 : (i 2).val < 2048 := (i 2).isLt
    let t : Fin cfg4.N := ⟨(i 0).val * 4 + (i 2).val / 1024 * 2 + (i 1).val / 1024, by omega⟩
    obtain ⟨-, -, ⟨z0, z1, z2⟩, -⟩ := at4 t
    refine ⟨t, flush4_2 t, ?_⟩
    show i ∈ ((View.whole main_v6).slice (win4_2.rect t)).set
    rw [View.set_slice_whole, Rect.mem_set_unit]
    refine all3 ?_ ?_ ?_
    · show win4_2.index t 0 * 1 ≤ (i 0).val ∧ (i 0).val < win4_2.index t 0 * 1 + 1
      rw [z0]; dsimp only [t]; omega
    · show win4_2.index t 1 * 1024 ≤ (i 1).val ∧ (i 1).val < win4_2.index t 1 * 1024 + 1024
      rw [z1]; dsimp only [t]; omega
    · show win4_2.index t 2 * 1024 ≤ (i 2).val ∧ (i 2).val < win4_2.index t 2 * 1024 + 1024
      rw [z2]; dsimp only [t]; omega

end Cert.Proof

end
-- ==== Proof.Corr.lean ====
/- The correction of each decoded factor: the array the region leaves, from the arrays it finds. -/
module

public import proofs.«01_k».proof.Proof.Math
public import proofs.«01_k».proof.Proof.Tiles
public import proofs.«01_k».proof.Proof.Gen.KernelIdeal.Frame.Region2
public import proofs.«01_k».proof.Proof.Gen.KernelIdeal.Frame.Region5

@[expose] public section

noncomputable section

namespace Cert.Proof

open Idealize.ShloMosaic Idealize.ShloMosaic.ValueIdx Idealize.ShloMosaic.TcCoe
open Cert.KernelIdeal Cert.KernelIdeal.Gen

variable (V : (c : Dev nD) → (b : Ref sig .tc) → Buf (Elt Ideal) ((c : Thread nD τ).loc b))

/-- Which block each window of the region holds at the region's `t`-th point. -/
theorem at2 : ∀ t : Fin cfg2.N, (win2_0.index t 0 = t.val / 16 ∧ win2_0.index t 1 = t.val % 4 ∧ win2_0.index t 2 = 0)
    ∧ (win2_1.index t 0 = t.val / 16 ∧ win2_1.index t 1 = 0 ∧ win2_1.index t 2 = t.val / 4 % 4)
    ∧ (win2_2.index t 0 = t.val / 16 ∧ win2_2.index t 1 = t.val % 4 ∧ win2_2.index t 2 = t.val / 4 % 4)
    ∧ (win2_3.index t 0 = t.val / 16 ∧ win2_3.index t 1 = t.val % 4 ∧ win2_3.index t 2 = t.val / 4 % 4) := by decide +kernel

/-- The left factor, corrected. -/
theorem corr_l (c : Dev nD) : (dat2 V c).arrAt 3 cfg2.N = fun y : S3x4096x4096.Idx => corr (rd (V c main_v2 : Vec Ideal S3x4096x4096 .bf16)) (rd (V c main_v1 : Vec Ideal S3x4096x4096 .bf16)) (y 0) (y 1) (y 2) := by
  have hN : cfg2.N = 48 := N_2
  refine (dat2 V c).arrAt_eq_of_cover 3 _ (fun t _ => ?_) (fun i => ?_)
  · show (cfg2.win 3).cut (grid2.coords t) ((dat2 V c).after 3 t) = _
    rw [after2_3]
    unfold out2_3
    rw [View.canon_unit_zero hz3, View.ld_unit_zero hz3, View.ld_unit_zero hz3, View.ld_unit_zero hz3]
    obtain ⟨⟨a0, a1, a2⟩, ⟨b0, b1, b2⟩, ⟨c0, c1, c2⟩, ⟨z0, z1, z2⟩⟩ := at2 t
    funext y
    obtain ⟨r, s, rfl⟩ := one3 y
    show k2_pay1 (iblk2 V c 0 t) (iblk2 V c 1 t) (iblk2 V c 2 t) (ix3 0 r s) = _
    have ht := t.isLt
    have hr := r.isLt
    have hs := s.isLt
    obtain ⟨p, q, u, hp⟩ : ∃ (p : Fin 3) (q : Fin 4096) (u : Fin 4096), (((cfg2.win 3).blk t).view.emb (ix3 0 r s) : S3x4096x4096.Idx) = ix3 p q u := ⟨_, _, _, eq_ix3 _⟩
    have p0 : win2_3.index t 0 * 1 + 1 * 0 = p.val := congrArg (fun j : S3x4096x4096.Idx => (j 0).val) hp
    have p1 : win2_3.index t 1 * 1024 + 1 * r.val = q.val := congrArg (fun j : S3x4096x4096.Idx => (j 1).val) hp
    have p2 : win2_3.index t 2 * 1024 + 1 * s.val = u.val := congrArg (fun j : S3x4096x4096.Idx => (j 2).val) hp
    refine Eq.trans ?_ (congrArg (fun y : S3x4096x4096.Idx => corr (rd (V c main_v2 : Vec Ideal S3x4096x4096 .bf16)) (rd (V c main_v1 : Vec Ideal S3x4096x4096 .bf16)) (y 0) (y 1) (y 2)) hp).symm
    show _ = corr (rd (V c main_v2 : Vec Ideal S3x4096x4096 .bf16)) (rd (V c main_v1 : Vec Ideal S3x4096x4096 .bf16)) p q u
    have e0 : ∀ k : Fin 4096, iblk2 V c 0 t (ix3 0 r k) = rd (V c main_v2 : Vec Ideal S3x4096x4096 .bf16) p q k := fun k =>
      congrArg (V c main_v2) (ix3_ext
        (by show win2_0.index t 0 * 1 + 1 * 0 = p.val; omega)
        (by show win2_0.index t 1 * 1024 + 1 * r.val = q.val; omega)
        (by show win2_0.index t 2 * 4096 + 1 * k.val = k.val; omega))
    have e1 : ∀ k : Fin 4096, iblk2 V c 1 t (ix3 0 k s) = rd (V c main_v1 : Vec Ideal S3x4096x4096 .bf16) p k u := fun k =>
      congrArg (V c main_v1) (ix3_ext
        (by show win2_1.index t 0 * 1 + 1 * 0 = p.val; omega)
        (by show win2_1.index t 1 * 4096 + 1 * k.val = k.val; omega)
        (by show win2_1.index t 2 * 1024 + 1 * s.val = u.val; omega))
    have e2 : iblk2 V c 2 t (ix3 0 r s) = rd (V c main_v1 : Vec Ideal S3x4096x4096 .bf16) p q u :=
      congrArg (V c main_v1) (ix3_ext
        (by show win2_2.index t 0 * 1 + 1 * 0 = p.val; omega)
        (by show win2_2.index t 1 * 1024 + 1 * r.val = q.val; omega)
        (by show win2_2.index t 2 * 1024 + 1 * s.val = u.val; omega))
    refine (k2_pay1_apply (iblk2 V c 0 t) (iblk2 V c 1 t) (iblk2 V c 2 t) r s).trans ?_
    have hsum := Finset.sum_congr (rfl : (Finset.univ : Finset (Fin 4096)) = _) fun k _ => congr (congrArg (fun a b : EReal => a * b) (e0 k)) (e1 k)
    unfold corr
    exact congrArg₂ (fun a b : EReal => a - half * b) e2 hsum
  · have i0 : (i 0).val < 3 := (i 0).isLt
    have i1 : (i 1).val < 4096 := (i 1).isLt
    have i2 : (i 2).val < 4096 := (i 2).isLt
    let t : Fin cfg2.N := ⟨(i 0).val * 16 + (i 2).val / 1024 * 4 + (i 1).val / 1024, by omega⟩
    obtain ⟨-, -, -, ⟨z0, z1, z2⟩⟩ := at2 t
    refine ⟨t, flush2_3 t, ?_⟩
    show i ∈ ((View.whole main_v3).slice (win2_3.rect t)).set
    rw [View.set_slice_whole, Rect.mem_set_unit]
    refine all3 ?_ ?_ ?_
    · show win2_3.index t 0 * 1 ≤ (i 0).val ∧ (i 0).val < win2_3.index t 0 * 1 + 1
      rw [z0]; dsimp only [t]; omega
    · show win2_3.index t 1 * 1024 ≤ (i 1).val ∧ (i 1).val < win2_3.index t 1 * 1024 + 1024
      rw [z1]; dsimp only [t]; omega
    · show win2_3.index t 2 * 1024 ≤ (i 2).val ∧ (i 2).val < win2_3.index t 2 * 1024 + 1024
      rw [z2]; dsimp only [t]; omega

/-- Which block each window of the region holds at the region's `t`-th point. -/
theorem at5 : ∀ t : Fin cfg5.N, (win5_0.index t 0 = t.val / 4 ∧ win5_0.index t 1 = t.val % 2 ∧ win5_0.index t 2 = 0)
    ∧ (win5_1.index t 0 = t.val / 4 ∧ win5_1.index t 1 = 0 ∧ win5_1.index t 2 = t.val / 2 % 2)
    ∧ (win5_2.index t 0 = t.val / 4 ∧ win5_2.index t 1 = t.val % 2 ∧ win5_2.index t 2 = t.val / 2 % 2)
    ∧ (win5_3.index t 0 = t.val / 4 ∧ win5_3.index t 1 = t.val % 2 ∧ win5_3.index t 2 = t.val / 2 % 2) := by decide +kernel

/-- The right factor, corrected. -/
theorem corr_r (c : Dev nD) : (dat5 V c).arrAt 3 cfg5.N = fun y : S3x2048x2048.Idx => corr (rd (V c main_v6 : Vec Ideal S3x2048x2048 .bf16)) (rd (V c main_v5 : Vec Ideal S3x2048x2048 .bf16)) (y 0) (y 1) (y 2) := by
  have hN : cfg5.N = 12 := N_5
  refine (dat5 V c).arrAt_eq_of_cover 3 _ (fun t _ => ?_) (fun i => ?_)
  · show (cfg5.win 3).cut (grid5.coords t) ((dat5 V c).after 3 t) = _
    rw [after5_3]
    unfold out5_3
    rw [View.canon_unit_zero hz3, View.ld_unit_zero hz3, View.ld_unit_zero hz3, View.ld_unit_zero hz3]
    obtain ⟨⟨a0, a1, a2⟩, ⟨b0, b1, b2⟩, ⟨c0, c1, c2⟩, ⟨z0, z1, z2⟩⟩ := at5 t
    funext y
    obtain ⟨r, s, rfl⟩ := one3 y
    show k5_pay1 (iblk5 V c 0 t) (iblk5 V c 1 t) (iblk5 V c 2 t) (ix3 0 r s) = _
    have ht := t.isLt
    have hr := r.isLt
    have hs := s.isLt
    obtain ⟨p, q, u, hp⟩ : ∃ (p : Fin 3) (q : Fin 2048) (u : Fin 2048), (((cfg5.win 3).blk t).view.emb (ix3 0 r s) : S3x2048x2048.Idx) = ix3 p q u := ⟨_, _, _, eq_ix3 _⟩
    have p0 : win5_3.index t 0 * 1 + 1 * 0 = p.val := congrArg (fun j : S3x2048x2048.Idx => (j 0).val) hp
    have p1 : win5_3.index t 1 * 1024 + 1 * r.val = q.val := congrArg (fun j : S3x2048x2048.Idx => (j 1).val) hp
    have p2 : win5_3.index t 2 * 1024 + 1 * s.val = u.val := congrArg (fun j : S3x2048x2048.Idx => (j 2).val) hp
    refine Eq.trans ?_ (congrArg (fun y : S3x2048x2048.Idx => corr (rd (V c main_v6 : Vec Ideal S3x2048x2048 .bf16)) (rd (V c main_v5 : Vec Ideal S3x2048x2048 .bf16)) (y 0) (y 1) (y 2)) hp).symm
    show _ = corr (rd (V c main_v6 : Vec Ideal S3x2048x2048 .bf16)) (rd (V c main_v5 : Vec Ideal S3x2048x2048 .bf16)) p q u
    have e0 : ∀ k : Fin 2048, iblk5 V c 0 t (ix3 0 r k) = rd (V c main_v6 : Vec Ideal S3x2048x2048 .bf16) p q k := fun k =>
      congrArg (V c main_v6) (ix3_ext
        (by show win5_0.index t 0 * 1 + 1 * 0 = p.val; omega)
        (by show win5_0.index t 1 * 1024 + 1 * r.val = q.val; omega)
        (by show win5_0.index t 2 * 2048 + 1 * k.val = k.val; omega))
    have e1 : ∀ k : Fin 2048, iblk5 V c 1 t (ix3 0 k s) = rd (V c main_v5 : Vec Ideal S3x2048x2048 .bf16) p k u := fun k =>
      congrArg (V c main_v5) (ix3_ext
        (by show win5_1.index t 0 * 1 + 1 * 0 = p.val; omega)
        (by show win5_1.index t 1 * 2048 + 1 * k.val = k.val; omega)
        (by show win5_1.index t 2 * 1024 + 1 * s.val = u.val; omega))
    have e2 : iblk5 V c 2 t (ix3 0 r s) = rd (V c main_v5 : Vec Ideal S3x2048x2048 .bf16) p q u :=
      congrArg (V c main_v5) (ix3_ext
        (by show win5_2.index t 0 * 1 + 1 * 0 = p.val; omega)
        (by show win5_2.index t 1 * 1024 + 1 * r.val = q.val; omega)
        (by show win5_2.index t 2 * 1024 + 1 * s.val = u.val; omega))
    refine (k5_pay1_apply (iblk5 V c 0 t) (iblk5 V c 1 t) (iblk5 V c 2 t) r s).trans ?_
    have hsum := Finset.sum_congr (rfl : (Finset.univ : Finset (Fin 2048)) = _) fun k _ => congr (congrArg (fun a b : EReal => a * b) (e0 k)) (e1 k)
    unfold corr
    exact congrArg₂ (fun a b : EReal => a - half * b) e2 hsum
  · have i0 : (i 0).val < 3 := (i 0).isLt
    have i1 : (i 1).val < 2048 := (i 1).isLt
    have i2 : (i 2).val < 2048 := (i 2).isLt
    let t : Fin cfg5.N := ⟨(i 0).val * 4 + (i 2).val / 1024 * 2 + (i 1).val / 1024, by omega⟩
    obtain ⟨-, -, -, ⟨z0, z1, z2⟩⟩ := at5 t
    refine ⟨t, flush5_3 t, ?_⟩
    show i ∈ ((View.whole main_v7).slice (win5_3.rect t)).set
    rw [View.set_slice_whole, Rect.mem_set_unit]
    refine all3 ?_ ?_ ?_
    · show win5_3.index t 0 * 1 ≤ (i 0).val ∧ (i 0).val < win5_3.index t 0 * 1 + 1
      rw [z0]; dsimp only [t]; omega
    · show win5_3.index t 1 * 1024 ≤ (i 1).val ∧ (i 1).val < win5_3.index t 1 * 1024 + 1024
      rw [z1]; dsimp only [t]; omega
    · show win5_3.index t 2 * 1024 ≤ (i 2).val ∧ (i 2).val < win5_3.index t 2 * 1024 + 1024
      rw [z2]; dsimp only [t]; omega

end Cert.Proof

end
-- ==== Proof.Turn.lean ====
/- The gradient turned into the corrected factors, damped, and turned back by the left one: the array each region leaves. -/
module

public import proofs.«01_k».proof.Proof.Math
public import proofs.«01_k».proof.Proof.Tiles
public import proofs.«01_k».proof.Proof.Gen.KernelIdeal.Frame.Region6
public import proofs.«01_k».proof.Proof.Gen.KernelIdeal.Frame.Region7
public import proofs.«01_k».proof.Proof.Gen.KernelIdeal.Frame.Region8

@[expose] public section

noncomputable section

namespace Cert.Proof

open Idealize.ShloMosaic Idealize.ShloMosaic.ValueIdx Idealize.ShloMosaic.TcCoe
open Cert.KernelIdeal Cert.KernelIdeal.Gen

variable (V : (c : Dev nD) → (b : Ref sig .tc) → Buf (Elt Ideal) ((c : Thread nD τ).loc b))

/-- Which block each window of the region holds at the region's `t`-th point. -/
theorem at6 : ∀ t : Fin cfg6.N, (win6_0.index t 0 = t.val / 8 ∧ win6_0.index t 1 = t.val % 4 ∧ win6_0.index t 2 = 0)
    ∧ (win6_1.index t 0 = t.val / 8 ∧ win6_1.index t 1 = 0 ∧ win6_1.index t 2 = t.val / 4 % 2)
    ∧ (win6_2.index t 0 = t.val / 8 ∧ win6_2.index t 1 = t.val % 4 ∧ win6_2.index t 2 = 0)
    ∧ (win6_3.index t 0 = t.val / 8 ∧ win6_3.index t 1 = t.val % 4 ∧ win6_3.index t 2 = t.val / 4 % 2) := by decide +kernel

/-- The gradient turned by the left factor, its rows damped. -/
theorem turn_l (c : Dev nD) : (dat6 V c).arrAt 3 cfg6.N = fun y : S3x4096x2048.Idx => turn (rd (V c main_v3 : Vec Ideal S3x4096x4096 .bf16)) (rd (V c main_arg0 : Vec Ideal S3x4096x2048 .bf16)) (rd (V c main_v8 : Vec Ideal S3x4096x1 .f32)) (y 0) (y 1) (y 2) := by
  have hN : cfg6.N = 24 := N_6
  refine (dat6 V c).arrAt_eq_of_cover 3 _ (fun t _ => ?_) (fun i => ?_)
  · show (cfg6.win 3).cut (grid6.coords t) ((dat6 V c).after 3 t) = _
    rw [after6_3]
    unfold out6_3
    rw [View.canon_unit_zero hz3, View.ld_unit_zero hz3, View.ld_unit_zero hz3, View.ld_unit_zero hz3]
    obtain ⟨⟨a0, a1, a2⟩, ⟨b0, b1, b2⟩, ⟨c0, c1, c2⟩, ⟨z0, z1, z2⟩⟩ := at6 t
    funext y
    obtain ⟨r, s, rfl⟩ := one3 y
    show k6_pay1 (iblk6 V c 0 t) (iblk6 V c 1 t) (iblk6 V c 2 t) (ix3 0 r s) = _
    have ht := t.isLt
    have hr := r.isLt
    have hs := s.isLt
    obtain ⟨p, q, u, hp⟩ : ∃ (p : Fin 3) (q : Fin 4096) (u : Fin 2048), (((cfg6.win 3).blk t).view.emb (ix3 0 r s) : S3x4096x2048.Idx) = ix3 p q u := ⟨_, _, _, eq_ix3 _⟩
    have p0 : win6_3.index t 0 * 1 + 1 * 0 = p.val := congrArg (fun j : S3x4096x2048.Idx => (j 0).val) hp
    have p1 : win6_3.index t 1 * 1024 + 1 * r.val = q.val := congrArg (fun j : S3x4096x2048.Idx => (j 1).val) hp
    have p2 : win6_3.index t 2 * 1024 + 1 * s.val = u.val := congrArg (fun j : S3x4096x2048.Idx => (j 2).val) hp
    refine Eq.trans ?_ (congrArg (fun y : S3x4096x2048.Idx => turn (rd (V c main_v3 : Vec Ideal S3x4096x4096 .bf16)) (rd (V c main_arg0 : Vec Ideal S3x4096x2048 .bf16)) (rd (V c main_v8 : Vec Ideal S3x4096x1 .f32)) (y 0) (y 1) (y 2)) hp).symm
    show _ = turn (rd (V c main_v3 : Vec Ideal S3x4096x4096 .bf16)) (rd (V c main_arg0 : Vec Ideal S3x4096x2048 .bf16)) (rd (V c main_v8 : Vec Ideal S3x4096x1 .f32)) p q u
    have e0 : ∀ k : Fin 4096, iblk6 V c 0 t (ix3 0 r k) = rd (V c main_v3 : Vec Ideal S3x4096x4096 .bf16) p q k := fun k =>
      congrArg (V c main_v3) (ix3_ext
        (by show win6_0.index t 0 * 1 + 1 * 0 = p.val; omega)
        (by show win6_0.index t 1 * 1024 + 1 * r.val = q.val; omega)
        (by show win6_0.index t 2 * 4096 + 1 * k.val = k.val; omega))
    have e1 : ∀ k : Fin 4096, iblk6 V c 1 t (ix3 0 k s) = rd (V c main_arg0 : Vec Ideal S3x4096x2048 .bf16) p k u := fun k =>
      congrArg (V c main_arg0) (ix3_ext
        (by show win6_1.index t 0 * 1 + 1 * 0 = p.val; omega)
        (by show win6_1.index t 1 * 4096 + 1 * k.val = k.val; omega)
        (by show win6_1.index t 2 * 1024 + 1 * s.val = u.val; omega))
    have e2 : iblk6 V c 2 t (ix3 0 r 0) = rd (V c main_v8 : Vec Ideal S3x4096x1 .f32) p q 0 :=
      congrArg (V c main_v8) (ix3_ext
        (by show win6_2.index t 0 * 1 + 1 * 0 = p.val; omega)
        (by show win6_2.index t 1 * 1024 + 1 * r.val = q.val; omega)
        (by show win6_2.index t 2 * 1 + 1 * 0 = 0; omega))
    refine (k6_pay1_apply (iblk6 V c 0 t) (iblk6 V c 1 t) (iblk6 V c 2 t) r s).trans ?_
    have hsum := Finset.sum_congr (rfl : (Finset.univ : Finset (Fin 4096)) = _) fun k _ => congr (congrArg (fun a b : EReal => a * b) (e0 k)) (e1 k)
    unfold turn
    exact congrArg₂ (fun a b : EReal => a * damp b) hsum e2
  · have i0 : (i 0).val < 3 := (i 0).isLt
    have i1 : (i 1).val < 4096 := (i 1).isLt
    have i2 : (i 2).val < 2048 := (i 2).isLt
    let t : Fin cfg6.N := ⟨(i 0).val * 8 + (i 2).val / 1024 * 4 + (i 1).val / 1024, by omega⟩
    obtain ⟨-, -, -, ⟨z0, z1, z2⟩⟩ := at6 t
    refine ⟨t, flush6_3 t, ?_⟩
    show i ∈ ((View.whole main_v9).slice (win6_3.rect t)).set
    rw [View.set_slice_whole, Rect.mem_set_unit]
    refine all3 ?_ ?_ ?_
    · show win6_3.index t 0 * 1 ≤ (i 0).val ∧ (i 0).val < win6_3.index t 0 * 1 + 1
      rw [z0]; dsimp only [t]; omega
    · show win6_3.index t 1 * 1024 ≤ (i 1).val ∧ (i 1).val < win6_3.index t 1 * 1024 + 1024
      rw [z1]; dsimp only [t]; omega
    · show win6_3.index t 2 * 1024 ≤ (i 2).val ∧ (i 2).val < win6_3.index t 2 * 1024 + 1024
      rw [z2]; dsimp only [t]; omega

/-- Which block each window of the region holds at the region's `t`-th point. -/
theorem at7 : ∀ t : Fin cfg7.N, (win7_0.index t 0 = t.val / 8 ∧ win7_0.index t 1 = t.val % 2 ∧ win7_0.index t 2 = 0)
    ∧ (win7_1.index t 0 = t.val / 8 ∧ win7_1.index t 1 = t.val / 2 % 4 ∧ win7_1.index t 2 = 0)
    ∧ (win7_2.index t 0 = t.val / 8 ∧ win7_2.index t 1 = t.val % 2 ∧ win7_2.index t 2 = 0)
    ∧ (win7_3.index t 0 = t.val / 8 ∧ win7_3.index t 1 = t.val % 2 ∧ win7_3.index t 2 = t.val / 2 % 4) := by decide +kernel

/-- The turned gradient against the rows of the right factor, damped and stored with its axes exchanged. -/
theorem turn_r (c : Dev nD) : (dat7 V c).arrAt 3 cfg7.N = fun y : S3x2048x4096.Idx => turnT (rd (V c main_v7 : Vec Ideal S3x2048x2048 .bf16)) (rd (V c main_v9 : Vec Ideal S3x4096x2048 .bf16)) (rd (V c main_v10 : Vec Ideal S3x2048x1 .f32)) (y 0) (y 1) (y 2) := by
  have hN : cfg7.N = 24 := N_7
  refine (dat7 V c).arrAt_eq_of_cover 3 _ (fun t _ => ?_) (fun i => ?_)
  · show (cfg7.win 3).cut (grid7.coords t) ((dat7 V c).after 3 t) = _
    rw [after7_3]
    unfold out7_3
    rw [View.canon_unit_zero hz3, View.ld_unit_zero hz3, View.ld_unit_zero hz3, View.ld_unit_zero hz3]
    obtain ⟨⟨a0, a1, a2⟩, ⟨b0, b1, b2⟩, ⟨c0, c1, c2⟩, ⟨z0, z1, z2⟩⟩ := at7 t
    funext y
    obtain ⟨r, s, rfl⟩ := one3 y
    show k7_pay1 (iblk7 V c 0 t) (iblk7 V c 1 t) (iblk7 V c 2 t) (ix3 0 r s) = _
    have ht := t.isLt
    have hr := r.isLt
    have hs := s.isLt
    obtain ⟨p, q, u, hp⟩ : ∃ (p : Fin 3) (q : Fin 2048) (u : Fin 4096), (((cfg7.win 3).blk t).view.emb (ix3 0 r s) : S3x2048x4096.Idx) = ix3 p q u := ⟨_, _, _, eq_ix3 _⟩
    have p0 : win7_3.index t 0 * 1 + 1 * 0 = p.val := congrArg (fun j : S3x2048x4096.Idx => (j 0).val) hp
    have p1 : win7_3.index t 1 * 1024 + 1 * r.val = q.val := congrArg (fun j : S3x2048x4096.Idx => (j 1).val) hp
    have p2 : win7_3.index t 2 * 1024 + 1 * s.val = u.val := congrArg (fun j : S3x2048x4096.Idx => (j 2).val) hp
    refine Eq.trans ?_ (congrArg (fun y : S3x2048x4096.Idx => turnT (rd (V c main_v7 : Vec Ideal S3x2048x2048 .bf16)) (rd (V c main_v9 : Vec Ideal S3x4096x2048 .bf16)) (rd (V c main_v10 : Vec Ideal S3x2048x1 .f32)) (y 0) (y 1) (y 2)) hp).symm
    show _ = turnT (rd (V c main_v7 : Vec Ideal S3x2048x2048 .bf16)) (rd (V c main_v9 : Vec Ideal S3x4096x2048 .bf16)) (rd (V c main_v10 : Vec Ideal S3x2048x1 .f32)) p q u
    have e0 : ∀ k : Fin 2048, iblk7 V c 0 t (ix3 0 r k) = rd (V c main_v7 : Vec Ideal S3x2048x2048 .bf16) p q k := fun k =>
      congrArg (V c main_v7) (ix3_ext
        (by show win7_0.index t 0 * 1 + 1 * 0 = p.val; omega)
        (by show win7_0.index t 1 * 1024 + 1 * r.val = q.val; omega)
        (by show win7_0.index t 2 * 2048 + 1 * k.val = k.val; omega))
    have e1 : ∀ k : Fin 2048, iblk7 V c 1 t (ix3 0 s k) = rd (V c main_v9 : Vec Ideal S3x4096x2048 .bf16) p u k := fun k =>
      congrArg (V c main_v9) (ix3_ext
        (by show win7_1.index t 0 * 1 + 1 * 0 = p.val; omega)
        (by show win7_1.index t 1 * 1024 + 1 * s.val = u.val; omega)
        (by show win7_1.index t 2 * 2048 + 1 * k.val = k.val; omega))
    have e2 : iblk7 V c 2 t (ix3 0 r 0) = rd (V c main_v10 : Vec Ideal S3x2048x1 .f32) p q 0 :=
      congrArg (V c main_v10) (ix3_ext
        (by show win7_2.index t 0 * 1 + 1 * 0 = p.val; omega)
        (by show win7_2.index t 1 * 1024 + 1 * r.val = q.val; omega)
        (by show win7_2.index t 2 * 1 + 1 * 0 = 0; omega))
    refine (k7_pay1_apply (iblk7 V c 0 t) (iblk7 V c 1 t) (iblk7 V c 2 t) r s).trans ?_
    have hsum := Finset.sum_congr (rfl : (Finset.univ : Finset (Fin 2048)) = _) fun k _ => congr (congrArg (fun a b : EReal => a * b) (e0 k)) (e1 k)
    unfold turnT
    exact congrArg₂ (fun a b : EReal => a * damp b) hsum e2
  · have i0 : (i 0).val < 3 := (i 0).isLt
    have i1 : (i 1).val < 2048 := (i 1).isLt
    have i2 : (i 2).val < 4096 := (i 2).isLt
    let t : Fin cfg7.N := ⟨(i 0).val * 8 + (i 2).val / 1024 * 2 + (i 1).val / 1024, by omega⟩
    obtain ⟨-, -, -, ⟨z0, z1, z2⟩⟩ := at7 t
    refine ⟨t, flush7_3 t, ?_⟩
    show i ∈ ((View.whole main_v11).slice (win7_3.rect t)).set
    rw [View.set_slice_whole, Rect.mem_set_unit]
    refine all3 ?_ ?_ ?_
    · show win7_3.index t 0 * 1 ≤ (i 0).val ∧ (i 0).val < win7_3.index t 0 * 1 + 1
      rw [z0]; dsimp only [t]; omega
    · show win7_3.index t 1 * 1024 ≤ (i 1).val ∧ (i 1).val < win7_3.index t 1 * 1024 + 1024
      rw [z1]; dsimp only [t]; omega
    · show win7_3.index t 2 * 1024 ≤ (i 2).val ∧ (i 2).val < win7_3.index t 2 * 1024 + 1024
      rw [z2]; dsimp only [t]; omega

/-- Which block each window of the region holds at the region's `t`-th point. -/
theorem at8 : ∀ t : Fin cfg8.N, (win8_0.index t 0 = t.val / 8 ∧ win8_0.index t 1 = t.val % 2 ∧ win8_0.index t 2 = 0)
    ∧ (win8_1.index t 0 = t.val / 8 ∧ win8_1.index t 1 = 0 ∧ win8_1.index t 2 = t.val / 2 % 4)
    ∧ (win8_2.index t 0 = t.val / 8 ∧ win8_2.index t 1 = t.val / 2 % 4 ∧ win8_2.index t 2 = t.val % 2) := by decide +kernel

/-- The turned gradient turned back by the left factor. -/
theorem back_l (c : Dev nD) : (dat8 V c).arrAt 2 cfg8.N = fun y : S3x4096x2048.Idx => back (rd (V c main_v11 : Vec Ideal S3x2048x4096 .bf16)) (rd (V c main_v3 : Vec Ideal S3x4096x4096 .bf16)) (y 0) (y 1) (y 2) := by
  have hN : cfg8.N = 24 := N_8
  refine (dat8 V c).arrAt_eq_of_cover 2 _ (fun t _ => ?_) (fun i => ?_)
  · show (cfg8.win 2).cut (grid8.coords t) ((dat8 V c).after 2 t) = _
    rw [after8_2]
    unfold out8_2
    rw [View.canon_unit_zero hz3, View.ld_unit_zero hz3, View.ld_unit_zero hz3]
    obtain ⟨⟨a0, a1, a2⟩, ⟨b0, b1, b2⟩, ⟨z0, z1, z2⟩⟩ := at8 t
    funext y
    obtain ⟨r, s, rfl⟩ := one3 y
    show k8_pay1 (iblk8 V c 0 t) (iblk8 V c 1 t) (ix3 0 r s) = _
    have ht := t.isLt
    have hr := r.isLt
    have hs := s.isLt
    obtain ⟨p, q, u, hp⟩ : ∃ (p : Fin 3) (q : Fin 4096) (u : Fin 2048), (((cfg8.win 2).blk t).view.emb (ix3 0 r s) : S3x4096x2048.Idx) = ix3 p q u := ⟨_, _, _, eq_ix3 _⟩
    have p0 : win8_2.index t 0 * 1 + 1 * 0 = p.val := congrArg (fun j : S3x4096x2048.Idx => (j 0).val) hp
    have p1 : win8_2.index t 1 * 1024 + 1 * r.val = q.val := congrArg (fun j : S3x4096x2048.Idx => (j 1).val) hp
    have p2 : win8_2.index t 2 * 1024 + 1 * s.val = u.val := congrArg (fun j : S3x4096x2048.Idx => (j 2).val) hp
    refine Eq.trans ?_ (congrArg (fun y : S3x4096x2048.Idx => back (rd (V c main_v11 : Vec Ideal S3x2048x4096 .bf16)) (rd (V c main_v3 : Vec Ideal S3x4096x4096 .bf16)) (y 0) (y 1) (y 2)) hp).symm
    show _ = back (rd (V c main_v11 : Vec Ideal S3x2048x4096 .bf16)) (rd (V c main_v3 : Vec Ideal S3x4096x4096 .bf16)) p q u
    have e0 : ∀ k : Fin 4096, iblk8 V c 0 t (ix3 0 s k) = rd (V c main_v11 : Vec Ideal S3x2048x4096 .bf16) p u k := fun k =>
      congrArg (V c main_v11) (ix3_ext
        (by show win8_0.index t 0 * 1 + 1 * 0 = p.val; omega)
        (by show win8_0.index t 1 * 1024 + 1 * s.val = u.val; omega)
        (by show win8_0.index t 2 * 4096 + 1 * k.val = k.val; omega))
    have e1 : ∀ k : Fin 4096, iblk8 V c 1 t (ix3 0 k r) = rd (V c main_v3 : Vec Ideal S3x4096x4096 .bf16) p k q := fun k =>
      congrArg (V c main_v3) (ix3_ext
        (by show win8_1.index t 0 * 1 + 1 * 0 = p.val; omega)
        (by show win8_1.index t 1 * 4096 + 1 * k.val = k.val; omega)
        (by show win8_1.index t 2 * 1024 + 1 * r.val = q.val; omega))
    refine (k8_pay1_apply (iblk8 V c 0 t) (iblk8 V c 1 t) r s).trans ?_
    have hsum := Finset.sum_congr (rfl : (Finset.univ : Finset (Fin 4096)) = _) fun k _ => congr (congrArg (fun a b : EReal => a * b) (e0 k)) (e1 k)
    unfold back
    exact hsum
  · have i0 : (i 0).val < 3 := (i 0).isLt
    have i1 : (i 1).val < 4096 := (i 1).isLt
    have i2 : (i 2).val < 2048 := (i 2).isLt
    let t : Fin cfg8.N := ⟨(i 0).val * 8 + (i 1).val / 1024 * 2 + (i 2).val / 1024, by omega⟩
    obtain ⟨-, -, ⟨z0, z1, z2⟩⟩ := at8 t
    refine ⟨t, flush8_2 t, ?_⟩
    show i ∈ ((View.whole main_v12).slice (win8_2.rect t)).set
    rw [View.set_slice_whole, Rect.mem_set_unit]
    refine all3 ?_ ?_ ?_
    · show win8_2.index t 0 * 1 ≤ (i 0).val ∧ (i 0).val < win8_2.index t 0 * 1 + 1
      rw [z0]; dsimp only [t]; omega
    · show win8_2.index t 1 * 1024 ≤ (i 1).val ∧ (i 1).val < win8_2.index t 1 * 1024 + 1024
      rw [z1]; dsimp only [t]; omega
    · show win8_2.index t 2 * 1024 ≤ (i 2).val ∧ (i 2).val < win8_2.index t 2 * 1024 + 1024
      rw [z2]; dsimp only [t]; omega

end Cert.Proof

end
-- ==== Proof.Norm.lean ====
/- Sums of squares gathered lane by lane over several grid points: the lanes together hold the sum over the whole array. -/
module

public import proofs.«01_k».proof.Proof.Plain
public import proofs.«01_k».proof.Proof.Math

@[expose] public section

noncomputable section

namespace Cert.Proof

open Idealize.ShloMosaic Idealize.ShloMosaic.ValueIdx

/-- An index inside block `i` of `b` entries. -/
def blkIx {a b n : ℕ} (h : a * b = n) (i : Fin a) (r : Fin b) : Fin n :=
  ⟨i.val * b + r.val, by
    have hi := i.isLt; have hr := r.isLt
    have : (i.val + 1) * b ≤ a * b := Nat.mul_le_mul_right b hi
    rw [Nat.add_mul, Nat.one_mul] at this; omega⟩

/-- A sum over `a * b` indices, in `a` blocks of `b`. -/
theorem blk_sum {a b n : ℕ} (h : a * b = n) (f : Fin n → EReal) : ∑ x, f x = ∑ i : Fin a, ∑ r : Fin b, f (blkIx h i r) := by
  subst h
  rw [← Fintype.sum_prod_type', ← Equiv.sum_comp finProdFinEquiv]
  refine Finset.sum_congr rfl fun p _ => congrArg f (Fin.ext ?_)
  show p.2.val + b * p.1.val = p.1.val * b + p.2.val
  rw [Nat.mul_comm, Nat.add_comm]

/-- A sum over a matrix, tile by tile, the tiles column by column. -/
theorem tile_sum {A B R S m n : ℕ} (hm : A * R = m) (hn : B * S = n) (f : Fin m → Fin n → EReal) :
    ∑ x, ∑ y, f x y = ∑ j : Fin B, ∑ i : Fin A, ∑ r : Fin R, ∑ s : Fin S, f (blkIx hm i r) (blkIx hn j s) := by
  rw [blk_sum hm, Finset.sum_comm (s := (Finset.univ : Finset (Fin B)))]
  refine Finset.sum_congr rfl fun i _ => ?_
  rw [Finset.sum_comm (s := (Finset.univ : Finset (Fin B)))]
  exact Finset.sum_congr rfl fun r _ => blk_sum hn _

/-- A sum over the lanes of sums over the points, point by point. -/
theorem lane_sum {a b d : ℕ} (f : Fin d → Fin a → Fin b → EReal) : ∑ x, ∑ y, ∑ s, f s x y = ∑ s, ∑ x, ∑ y, f s x y := by
  rw [Finset.sum_comm (s := (Finset.univ : Finset (Fin d)))]
  exact Finset.sum_congr rfl fun x _ => Finset.sum_comm

/-- A reduction's entries together are the sum of its source. -/
theorem reduce_total {s t : Shape} {φ : FTy} {axes : List (Fin s.rank)} (src : FVec Ideal s φ) (acc : BitVec φ.bits)
    (h : s.Reduces axes t) (hφ : FKind.Formats φ) (hacc : acc = FKind.add.neutral φ hφ) :
    (∑ j, (multiReduction .add axes t src acc h hφ hacc j : EReal)) = ∑ i, (src i : EReal) := by
  show (∑ j, Ideal.reduceAdd h src j) = _
  unfold Ideal.reduceAdd
  exact Finset.sum_fiberwise (M := EReal) Finset.univ h.drop src

/-- A reshaped array has the same sum. -/
theorem cast_total {s t : Shape} (x : s.Idx → EReal) (h : s.ShapeCasts t) : (∑ i, shapeCast t x h i) = ∑ i, x i :=
  Equiv.sum_comp (Shape.reshapeEquiv h) x

/-- A total reset at every eighth point and added to at each holds, at the last of the eight, the sum of the eight parts. -/
theorem acc8 {N : ℕ} (o p : Fin N → EReal) (hA : ∀ t, t.val % 8 = 0 → o t = p t)
    (hB : ∀ t : Fin N, ¬ t.val % 8 = 0 → o t = o ⟨t.val - 1, by have := t.isLt; omega⟩ + p t) (b : ℕ) (hb : b * 8 + 7 < N) :
    o ⟨b * 8 + 7, hb⟩ = ∑ s : Fin 8, p ⟨b * 8 + s.val, by have := s.isLt; omega⟩ := by
  have step : ∀ k : ℕ, ∀ hk : b * 8 + k < N, k < 8 → o ⟨b * 8 + k, hk⟩ = ∑ s : Fin (k + 1), p ⟨b * 8 + s.val, by have := s.isLt; omega⟩ := by
    intro k
    induction k with
    | zero => intro hk _; rw [hA _ (by show (b * 8 + 0) % 8 = 0; omega), Fin.sum_univ_one]; rfl
    | succ k ih =>
      intro hk h8
      rw [hB _ (by show ¬ (b * 8 + (k + 1)) % 8 = 0; omega), Fin.sum_univ_castSucc]
      exact congrArg (· + _) (ih (by omega) (by omega))
  exact step 7 hb (by omega)

end Cert.Proof

end
-- ==== Proof.Prec.lean ====
/- The preconditioned gradient and the sum of its squares: the two arrays the region leaves. -/
module

public import proofs.«01_k».proof.Proof.Norm
public import proofs.«01_k».proof.Proof.Tiles
public import proofs.«01_k».proof.Proof.Gen.KernelIdeal.Frame.Region9
public import Idealize.ShloMosaic.Lib.Tactic

@[expose] public section

noncomputable section

namespace Cert.Proof

open Idealize.ShloMosaic Idealize.ShloMosaic.ValueIdx Idealize.ShloMosaic.TcCoe
open Cert.KernelIdeal Cert.KernelIdeal.Gen

/-- One tile's squares, summed into the lanes. -/
def part9 (x0 : Vec Ideal S1x1024x2048 .bf16) (x1 : Vec Ideal S1x2048x1024 .bf16) : FVec Ideal S8x128 .f32 :=
  multiReduction .add [0, 2] S8x128 (shapeCast S128x8x8x128 (mulf (k9_pay1 x0 x1) (k9_pay1 x0 x1)) shapeCasts_S1024x1024_S128x8x8x128)
    0x00000000#32 reduces_S128x8x8x128_S8x128 (.inl rfl) rfl

/-- The lanes together hold the tile's sum of squares. -/
theorem part9_total (x0 : Vec Ideal S1x1024x2048 .bf16) (x1 : Vec Ideal S1x2048x1024 .bf16) :
    (∑ a : Fin 8, ∑ l : Fin 128, (part9 x0 x1 (ix2 a l) : EReal))
      = ∑ r : Fin 1024, ∑ c : Fin 1024, (k9_pay1 x0 x1 (ix2 r c) * k9_pay1 x0 x1 (ix2 r c) : EReal) := by
  rw [← sum_idx2 (fun i => (part9 x0 x1 i : EReal)), ← sum_idx2 (fun i => (k9_pay1 x0 x1 i * k9_pay1 x0 x1 i : EReal))]
  refine (reduce_total (φ := .f32) _ _ reduces_S128x8x8x128_S8x128 (.inl rfl) rfl).trans ?_
  exact cast_total (fun i => (k9_pay1 x0 x1 i * k9_pay1 x0 x1 i : EReal)) shapeCasts_S1024x1024_S128x8x8x128

section Cases
variable (c : Dev nD) (i : grid9.Coords) (a0 : Memref sig .tc .vmem S1x1024x2048 .bf16) (h0 : a0.IsWhole)
  (a1 : Memref sig .tc .vmem S1x2048x1024 .bf16) (h1 : a1.IsWhole) (a2 : Memref sig .tc .vmem S1x1024x1024 .f32) (h2 : a2.IsWhole)
  (a3 : Memref sig .tc .vmem S1x8x128 .f32) (h3 : a3.IsWhole) (x0 : Vec Ideal S1x1024x2048 .bf16) (x1 : Vec Ideal S1x2048x1024 .bf16)

/-- The product tile is stored whole, at a batch entry's first point -/
theorem out9_A_2_eq (hc : cond9_0 i) : out9_A_2 c i a0 h0 a1 h1 a2 h2 a3 h3 hc x0 x1 = k9_pay2 x0 x1 := by
  unfold out9_A_2
  rw [View.read_writes_eq_canon _ _ _ (cover9_A_2 c i a0 h0 a1 h1 a2 h2 a3 h3 hc x0 x1)]
  unfold kernelRun9_A
  dsimp only
  rw [View.canon_unit_zero hz3]
  simp only [View.readAt_eq_ld, h0.read_unread, h1.read_unread, View.ld_unit_zero (S := S1x1024x2048) hz3, View.ld_unit_zero (S := S1x2048x1024) hz3]

/-- and at the others. -/
theorem out9_B_2_eq (hc : ¬ cond9_0 i) (xo : Vec Ideal S1x8x128 .f32) : out9_B_2 c i a0 h0 a1 h1 a2 h2 a3 h3 hc x0 x1 xo = k9_pay2 x0 x1 := by
  unfold out9_B_2
  rw [View.read_writes_eq_canon _ _ _ (cover9_B_2 c i a0 h0 a1 h1 a2 h2 a3 h3 hc x0 x1 xo)]
  unfold kernelRun9_B
  dsimp only
  rw [View.canon_unit_zero hz3]
  simp only [View.readAt_eq_ld, h0.read_unread, h1.read_unread, View.ld_unit_zero (S := S1x1024x2048) hz3, View.ld_unit_zero (S := S1x2048x1024) hz3]

/-- The lanes start from zero at a batch entry's first point -/
theorem out9_A_3_eq (hc : cond9_0 i) : out9_A_3 c i a0 h0 a1 h1 a2 h2 a3 h3 hc x0 x1 = k9_pay4 x0 x1 (k9_pay3 (F := Ideal)) := by
  unfold out9_A_3
  rw [View.read_writes_eq_canon _ _ _ (cover9_A_3 c i a0 h0 a1 h1 a2 h2 a3 h3 hc x0 x1)]
  unfold kernelRun9_A
  dsimp only
  sl_unfold_words
  rw [View.canon_cons_unit_zero (S := S1x8x128) hz3, View.readCov_unit_zero (S := S1x8x128) _ hz3]
  simp only [View.readAt_eq_ld, h0.read_unread, h1.read_unread, View.ld_unit_zero (S := S1x1024x2048) hz3, View.ld_unit_zero (S := S1x2048x1024) hz3]

/-- and are added to at the others. -/
theorem out9_B_3_eq (hc : ¬ cond9_0 i) (xo : Vec Ideal S1x8x128 .f32) : out9_B_3 c i a0 h0 a1 h1 a2 h2 a3 h3 hc x0 x1 xo = k9_pay4 x0 x1 xo := by
  unfold out9_B_3
  rw [View.read_writes_eq_canon _ _ _ (cover9_B_3 c i a0 h0 a1 h1 a2 h2 a3 h3 hc x0 x1 xo)]
  unfold kernelRun9_B
  dsimp only
  rw [View.canon_unit_zero hz3]
  simp only [View.readAt_eq_ld, h0.read_unread, h1.read_unread, h3.read_unread, View.ld_unit_zero (S := S1x1024x2048) hz3, View.ld_unit_zero (S := S1x2048x1024) hz3,
    View.ld_unit_zero (S := S1x8x128) hz3]

end Cases

/-- Adding a tile's lanes to what is there. -/
theorem k9_pay4_apply (x0 : Vec Ideal S1x1024x2048 .bf16) (x1 : Vec Ideal S1x2048x1024 .bf16) (xo : Vec Ideal S1x8x128 .f32) (a : Fin 8) (l : Fin 128) :
    k9_pay4 x0 x1 xo (ix3 0 a l) = (xo (ix3 0 a l) + part9 x0 x1 (ix2 a l) : EReal) := by
  unfold k9_pay4
  rw [cast_add, addf_apply]
  exact congrArg (fun z : EReal => z + part9 x0 x1 (ix2 a l)) (cast_drop xo shapeCasts_S1x8x128_S8x128 a l)

/-- Adding a tile's lanes to zero. -/
theorem k9_pay4_zero (x0 : Vec Ideal S1x1024x2048 .bf16) (x1 : Vec Ideal S1x2048x1024 .bf16) (a : Fin 8) (l : Fin 128) :
    k9_pay4 x0 x1 (k9_pay3 (F := Ideal)) (ix3 0 a l) = (part9 x0 x1 (ix2 a l) : EReal) := by
  rw [k9_pay4_apply]
  show Ideal.ofBits .f32 0x00000000#32 + _ = _
  rw [Ideal.ofBits_zero_f32, zero_add]

variable (V : (c : Dev nD) → (b : Ref sig .tc) → Buf (Elt Ideal) ((c : Thread nD τ).loc b))

/-- At every point the first output holds the product tile. -/
theorem tile9 (c : Dev nD) (t : Fin cfg9.N) : (outsAt9 V c t.val t.isLt).1 = k9_pay2 (iblk9 V c 0 t) (iblk9 V c 1 t) := by
  by_cases h : t.val % 8 = 0
  · rw [outsAt9_A V c t h]; dsimp only; rw [out9_A_2_eq]
  · rw [outsAt9_B V c t h]; dsimp only; rw [out9_B_2_eq]

/-- Which block each window of the region holds at the region's `t`-th point. -/
theorem at9 : ∀ t : Fin cfg9.N, (win9_0.index t 0 = t.val / 8 ∧ win9_0.index t 1 = t.val % 4 ∧ win9_0.index t 2 = 0)
    ∧ (win9_1.index t 0 = t.val / 8 ∧ win9_1.index t 1 = 0 ∧ win9_1.index t 2 = t.val / 4 % 2)
    ∧ (win9_2.index t 0 = t.val / 8 ∧ win9_2.index t 1 = t.val % 4 ∧ win9_2.index t 2 = t.val / 4 % 2) := by decide +kernel

/-- The product tile at a grid point is that block of the whole product. -/
theorem prod9 (c : Dev nD) (t : Fin cfg9.N) (r s : Fin 1024) (p : Fin 3) (q : Fin 4096) (u : Fin 2048)
    (p0 : p.val = t.val / 8) (p1 : q.val = t.val % 4 * 1024 + r.val) (p2 : u.val = t.val / 4 % 2 * 1024 + s.val) :
    k9_pay1 (iblk9 V c 0 t) (iblk9 V c 1 t) (ix2 r s)
      = (prec (rd (V c main_v12 : Vec Ideal S3x4096x2048 .bf16)) (rd (V c main_v7 : Vec Ideal S3x2048x2048 .bf16)) p q u : EReal) := by
  obtain ⟨⟨a0, a1, a2⟩, ⟨b0, b1, b2⟩, -⟩ := at9 t
  have e0 : ∀ k : Fin 2048, iblk9 V c 0 t (ix3 0 r k) = rd (V c main_v12 : Vec Ideal S3x4096x2048 .bf16) p q k := fun k =>
    congrArg (V c main_v12) (ix3_ext
      (by show win9_0.index t 0 * 1 + 1 * 0 = p.val; omega)
      (by show win9_0.index t 1 * 1024 + 1 * r.val = q.val; omega)
      (by show win9_0.index t 2 * 2048 + 1 * k.val = k.val; omega))
  have e1 : ∀ k : Fin 2048, iblk9 V c 1 t (ix3 0 k s) = rd (V c main_v7 : Vec Ideal S3x2048x2048 .bf16) p k u := fun k =>
    congrArg (V c main_v7) (ix3_ext
      (by show win9_1.index t 0 * 1 + 1 * 0 = p.val; omega)
      (by show win9_1.index t 1 * 2048 + 1 * k.val = k.val; omega)
      (by show win9_1.index t 2 * 1024 + 1 * s.val = u.val; omega))
  refine (k9_pay1_apply (iblk9 V c 0 t) (iblk9 V c 1 t) r s).trans ?_
  exact Finset.sum_congr rfl fun k _ => congrArg₂ (fun a b : EReal => a * b) (e0 k) (e1 k)

/-- The preconditioned gradient. -/
theorem prec_r (c : Dev nD) : (dat9 V c).arrAt 2 cfg9.N = fun y : S3x4096x2048.Idx => prec (rd (V c main_v12 : Vec Ideal S3x4096x2048 .bf16)) (rd (V c main_v7 : Vec Ideal S3x2048x2048 .bf16)) (y 0) (y 1) (y 2) := by
  have hN : cfg9.N = 24 := N_9
  refine (dat9 V c).arrAt_eq_of_cover 2 _ (fun t _ => ?_) (fun i => ?_)
  · show (cfg9.win 2).cut (grid9.coords t) ((dat9 V c).after 2 t) = _
    rw [after9_2, tile9]
    obtain ⟨⟨a0, a1, a2⟩, ⟨b0, b1, b2⟩, ⟨z0, z1, z2⟩⟩ := at9 t
    funext y
    obtain ⟨r, s, rfl⟩ := one3 y
    show k9_pay2 (iblk9 V c 0 t) (iblk9 V c 1 t) (ix3 0 r s) = _
    have ht := t.isLt
    have hr := r.isLt
    have hs := s.isLt
    obtain ⟨p, q, u, hp⟩ : ∃ (p : Fin 3) (q : Fin 4096) (u : Fin 2048), (((cfg9.win 2).blk t).view.emb (ix3 0 r s) : S3x4096x2048.Idx) = ix3 p q u := ⟨_, _, _, eq_ix3 _⟩
    have p0 : win9_2.index t 0 * 1 + 1 * 0 = p.val := congrArg (fun j : S3x4096x2048.Idx => (j 0).val) hp
    have p1 : win9_2.index t 1 * 1024 + 1 * r.val = q.val := congrArg (fun j : S3x4096x2048.Idx => (j 1).val) hp
    have p2 : win9_2.index t 2 * 1024 + 1 * s.val = u.val := congrArg (fun j : S3x4096x2048.Idx => (j 2).val) hp
    refine Eq.trans ?_ (congrArg (fun y : S3x4096x2048.Idx => prec (rd (V c main_v12 : Vec Ideal S3x4096x2048 .bf16)) (rd (V c main_v7 : Vec Ideal S3x2048x2048 .bf16)) (y 0) (y 1) (y 2)) hp).symm
    show _ = prec (rd (V c main_v12 : Vec Ideal S3x4096x2048 .bf16)) (rd (V c main_v7 : Vec Ideal S3x2048x2048 .bf16)) p q u
    have hk : k9_pay2 (iblk9 V c 0 t) (iblk9 V c 1 t) (ix3 0 r s) = k9_pay1 (iblk9 V c 0 t) (iblk9 V c 1 t) (ix2 r s) :=
      cast_add (k9_pay1 (iblk9 V c 0 t) (iblk9 V c 1 t)) shapeCasts_S1024x1024_S1x1024x1024 (ix3 0 r s)
    exact hk.trans (prod9 V c t r s p q u (by omega) (by omega) (by omega))
  · have i0 : (i 0).val < 3 := (i 0).isLt
    have i1 : (i 1).val < 4096 := (i 1).isLt
    have i2 : (i 2).val < 2048 := (i 2).isLt
    let t : Fin cfg9.N := ⟨(i 0).val * 8 + (i 2).val / 1024 * 4 + (i 1).val / 1024, by omega⟩
    obtain ⟨-, -, ⟨z0, z1, z2⟩⟩ := at9 t
    refine ⟨t, flush9_2 t, ?_⟩
    show i ∈ ((View.whole main_v13_0).slice (win9_2.rect t)).set
    rw [View.set_slice_whole, Rect.mem_set_unit]
    refine all3 ?_ ?_ ?_
    · show win9_2.index t 0 * 1 ≤ (i 0).val ∧ (i 0).val < win9_2.index t 0 * 1 + 1
      rw [z0]; dsimp only [t]; omega
    · show win9_2.index t 1 * 1024 ≤ (i 1).val ∧ (i 1).val < win9_2.index t 1 * 1024 + 1024
      rw [z1]; dsimp only [t]; omega
    · show win9_2.index t 2 * 1024 ≤ (i 2).val ∧ (i 2).val < win9_2.index t 2 * 1024 + 1024
      rw [z2]; dsimp only [t]; omega

/-- Which block of the lanes' array the region's `t`-th point holds. -/
theorem ixn9 : ∀ t : Fin cfg9.N, win9_3.index t 0 = t.val / 8 ∧ win9_3.index t 1 = 0 ∧ win9_3.index t 2 = 0 := by decide +kernel

/-- The grid point of batch entry `b`'s `s`-th step. -/
def pt9 (b : Fin 3) (s : Fin 8) : Fin cfg9.N := ⟨b.val * 8 + s.val, by have hN : cfg9.N = 24 := N_9; omega⟩

/-- A batch entry's lanes: the parts of its eight points. -/
def lanes9 (c : Dev nD) (b : Fin 3) (a : Fin 8) (l : Fin 128) : EReal :=
  ∑ s : Fin 8, (part9 (iblk9 V c 0 (pt9 b s)) (iblk9 V c 1 (pt9 b s)) (ix2 a l) : EReal)

/-- At a batch entry's last point the second output holds them. -/
theorem outs9_at (c : Dev nD) (n : ℕ) (hn : n < cfg9.N) (b : Fin 3) (a : Fin 8) (l : Fin 128) (h : n = b.val * 8 + 7) :
    (outsAt9 V c n hn).2 (ix3 0 a l) = (lanes9 V c b a l : EReal) := by
  subst h
  exact acc8 (fun t => (outsAt9 V c t.val t.isLt).2 (ix3 0 a l)) (fun t => part9 (iblk9 V c 0 t) (iblk9 V c 1 t) (ix2 a l))
    (fun t h => by
      show (outsAt9 V c t.val t.isLt).2 (ix3 0 a l) = _
      rw [outsAt9_A V c t h]; dsimp only; rw [out9_A_3_eq]; exact k9_pay4_zero ..)
    (fun t h => by
      show (outsAt9 V c t.val t.isLt).2 (ix3 0 a l) = _
      rw [outsAt9_B V c t h]; dsimp only; rw [out9_B_3_eq]; exact k9_pay4_apply ..) b.val hn

/-- At a batch entry's last point the region writes back that entry's lanes. -/
theorem prec_lanes (c : Dev nD) : (dat9 V c).arrAt 3 cfg9.N = fun y : S3x8x128.Idx => lanes9 V c (y 0) (y 1) (y 2) := by
  have hN : cfg9.N = 24 := N_9
  refine (dat9 V c).arrAt_eq_of_cover 3 _ (fun t ht => ?_) (fun i => ?_)
  · have h7 : t.val % 8 = 7 := (flush9_3 t).1 ht
    show (cfg9.win 3).cut (grid9.coords t) ((dat9 V c).after 3 t) = _
    rw [after9_3]
    obtain ⟨z0, z1, z2⟩ := ixn9 t
    funext y
    obtain ⟨r, s, rfl⟩ := one3 y
    show (outsAt9 V c t.val t.isLt).2 (ix3 0 r s) = _
    have hr := r.isLt
    have hs := s.isLt
    obtain ⟨p, q, u, hp⟩ : ∃ (p : Fin 3) (q : Fin 8) (u : Fin 128), (((cfg9.win 3).blk t).view.emb (ix3 0 r s) : S3x8x128.Idx) = ix3 p q u := ⟨_, _, _, eq_ix3 _⟩
    have p0 : win9_3.index t 0 * 1 + 1 * 0 = p.val := congrArg (fun j : S3x8x128.Idx => (j 0).val) hp
    have p1 : win9_3.index t 1 * 8 + 1 * r.val = q.val := congrArg (fun j : S3x8x128.Idx => (j 1).val) hp
    have p2 : win9_3.index t 2 * 128 + 1 * s.val = u.val := congrArg (fun j : S3x8x128.Idx => (j 2).val) hp
    refine Eq.trans ?_ (congrArg (fun y : S3x8x128.Idx => lanes9 V c (y 0) (y 1) (y 2)) hp).symm
    show _ = lanes9 V c p q u
    obtain rfl : q = r := Fin.ext (by omega)
    obtain rfl : u = s := Fin.ext (by omega)
    have htv : t.val = p.val * 8 + 7 := by omega
    exact (outs9_at V c t.val t.isLt p q u htv)
  · have i0 : (i 0).val < 3 := (i 0).isLt
    have i1 : (i 1).val < 8 := (i 1).isLt
    have i2 : (i 2).val < 128 := (i 2).isLt
    let t : Fin cfg9.N := ⟨(i 0).val * 8 + 7, by omega⟩
    obtain ⟨z0, z1, z2⟩ := ixn9 t
    refine ⟨t, (flush9_3 t).2 (by dsimp only [t]; omega), ?_⟩
    show i ∈ ((View.whole main_v13_1).slice (win9_3.rect t)).set
    rw [View.set_slice_whole, Rect.mem_set_unit]
    refine all3 ?_ ?_ ?_
    · show win9_3.index t 0 * 1 ≤ (i 0).val ∧ (i 0).val < win9_3.index t 0 * 1 + 1
      rw [z0]; dsimp only [t]; omega
    · show win9_3.index t 1 * 8 ≤ (i 1).val ∧ (i 1).val < win9_3.index t 1 * 8 + 8
      rw [z1]; omega
    · show win9_3.index t 2 * 128 ≤ (i 2).val ∧ (i 2).val < win9_3.index t 2 * 128 + 128
      rw [z2]; omega

/-- The lanes of a batch entry together are its sum of squares. -/
theorem prec_sq (c : Dev nD) (b : Fin 3) : (∑ a, ∑ l, lanes9 V c b a l)
    = sq (prec (rd (V c main_v12 : Vec Ideal S3x4096x2048 .bf16)) (rd (V c main_v7 : Vec Ideal S3x2048x2048 .bf16))) b := by
  unfold lanes9 sq
  rw [lane_sum, tile_sum (A := 4) (B := 2) (R := 1024) (S := 1024) rfl rfl, blk_sum (a := 2) (b := 4) rfl]
  refine Finset.sum_congr rfl fun j _ => Finset.sum_congr rfl fun i _ => ?_
  refine (part9_total _ _).trans (Finset.sum_congr rfl fun r _ => Finset.sum_congr rfl fun s _ => ?_)
  have hi := i.isLt
  have hj := j.isLt
  have e := prod9 V c (pt9 b (blkIx rfl j i)) r s b (blkIx rfl i r) (blkIx rfl j s)
    (by show b.val = (b.val * 8 + (j.val * 4 + i.val)) / 8; omega)
    (by show i.val * 1024 + r.val = (b.val * 8 + (j.val * 4 + i.val)) % 4 * 1024 + r.val; omega)
    (by show j.val * 1024 + s.val = (b.val * 8 + (j.val * 4 + i.val)) / 4 % 2 * 1024 + s.val; omega)
  exact congrArg₂ (fun a b : EReal => a * b) e e

end Cert.Proof

end
-- ==== Proof.Ada.lean ====
/- The diagonal preconditioner and the sum of its squares: the two arrays the region leaves. -/
module

public import proofs.«01_k».proof.Proof.Norm
public import proofs.«01_k».proof.Proof.Tiles
public import proofs.«01_k».proof.Proof.Gen.KernelIdeal.Frame.Region10
public import Idealize.ShloMosaic.Lib.Tactic

@[expose] public section

noncomputable section

namespace Cert.Proof

open Idealize.ShloMosaic Idealize.ShloMosaic.ValueIdx Idealize.ShloMosaic.TcCoe
open Cert.KernelIdeal Cert.KernelIdeal.Gen

/-- A tile of the gradient over the damped root of the accumulator's tile. -/
theorem k10_pay1_apply (x0 : Vec Ideal S1x512x2048 .bf16) (x1 : Vec Ideal S1x512x2048 .f32) (r : Fin 512) (s : Fin 2048) :
    k10_pay1 x0 x1 (ix2 r s) = (Ideal.div (x0 (ix3 0 r s)) (Ideal.sqrt (x1 (ix3 0 r s)) + tiny) : EReal) := by
  unfold k10_pay1
  rw [divf_apply, addf_apply, extf_apply, broadcast_apply]
  exact congrArg₂ (fun a b : EReal => Ideal.div a (Ideal.sqrt b + tiny)) (cast_drop x0 shapeCasts_S1x512x2048_S512x2048 r s) (cast_drop x1 shapeCasts_S1x512x2048_S512x2048 r s)

/-- One tile's squares, summed into the lanes. -/
def part10 (x0 : Vec Ideal S1x512x2048 .bf16) (x1 : Vec Ideal S1x512x2048 .f32) : FVec Ideal S8x128 .f32 :=
  multiReduction .add [0, 2] S8x128 (shapeCast S64x8x16x128 (mulf (k10_pay1 x0 x1) (k10_pay1 x0 x1)) shapeCasts_S512x2048_S64x8x16x128)
    0x00000000#32 reduces_S64x8x16x128_S8x128 (.inl rfl) rfl

/-- The lanes together hold the tile's sum of squares. -/
theorem part10_total (x0 : Vec Ideal S1x512x2048 .bf16) (x1 : Vec Ideal S1x512x2048 .f32) :
    (∑ a : Fin 8, ∑ l : Fin 128, (part10 x0 x1 (ix2 a l) : EReal))
      = ∑ r : Fin 512, ∑ c : Fin 2048, (k10_pay1 x0 x1 (ix2 r c) * k10_pay1 x0 x1 (ix2 r c) : EReal) := by
  rw [← sum_idx2 (fun i => (part10 x0 x1 i : EReal)), ← sum_idx2 (fun i => (k10_pay1 x0 x1 i * k10_pay1 x0 x1 i : EReal))]
  refine (reduce_total (φ := .f32) _ _ reduces_S64x8x16x128_S8x128 (.inl rfl) rfl).trans ?_
  exact cast_total (fun i => (k10_pay1 x0 x1 i * k10_pay1 x0 x1 i : EReal)) shapeCasts_S512x2048_S64x8x16x128

section Cases
variable (c : Dev nD) (i : grid10.Coords) (a0 : Memref sig .tc .vmem S1x512x2048 .bf16) (h0 : a0.IsWhole)
  (a1 : Memref sig .tc .vmem S1x512x2048 .f32) (h1 : a1.IsWhole) (a2 : Memref sig .tc .vmem S1x512x2048 .f32) (h2 : a2.IsWhole)
  (a3 : Memref sig .tc .vmem S1x8x128 .f32) (h3 : a3.IsWhole) (x0 : Vec Ideal S1x512x2048 .bf16) (x1 : Vec Ideal S1x512x2048 .f32)

/-- The tile is stored whole, at a batch entry's first point -/
theorem out10_A_2_eq (hc : cond10_0 i) : out10_A_2 c i a0 h0 a1 h1 a2 h2 a3 h3 hc x0 x1 = k10_pay2 x0 x1 := by
  unfold out10_A_2
  rw [View.read_writes_eq_canon _ _ _ (cover10_A_2 c i a0 h0 a1 h1 a2 h2 a3 h3 hc x0 x1)]
  unfold kernelRun10_A
  dsimp only
  rw [View.canon_unit_zero hz3]
  simp only [View.readAt_eq_ld, h0.read_unread, h1.read_unread, View.ld_unit_zero (S := S1x512x2048) hz3]

/-- and at the others. -/
theorem out10_B_2_eq (hc : ¬ cond10_0 i) (xo : Vec Ideal S1x8x128 .f32) : out10_B_2 c i a0 h0 a1 h1 a2 h2 a3 h3 hc x0 x1 xo = k10_pay2 x0 x1 := by
  unfold out10_B_2
  rw [View.read_writes_eq_canon _ _ _ (cover10_B_2 c i a0 h0 a1 h1 a2 h2 a3 h3 hc x0 x1 xo)]
  unfold kernelRun10_B
  dsimp only
  rw [View.canon_unit_zero hz3]
  simp only [View.readAt_eq_ld, h0.read_unread, h1.read_unread, View.ld_unit_zero (S := S1x512x2048) hz3]

/-- The lanes start from zero at a batch entry's first point -/
theorem out10_A_3_eq (hc : cond10_0 i) : out10_A_3 c i a0 h0 a1 h1 a2 h2 a3 h3 hc x0 x1 = k10_pay4 x0 x1 (k10_pay3 (F := Ideal)) := by
  unfold out10_A_3
  rw [View.read_writes_eq_canon _ _ _ (cover10_A_3 c i a0 h0 a1 h1 a2 h2 a3 h3 hc x0 x1)]
  unfold kernelRun10_A
  dsimp only
  sl_unfold_words
  rw [View.canon_cons_unit_zero (S := S1x8x128) hz3, View.readCov_unit_zero (S := S1x8x128) _ hz3]
  simp only [View.readAt_eq_ld, h0.read_unread, h1.read_unread, View.ld_unit_zero (S := S1x512x2048) hz3]

/-- and are added to at the others. -/
theorem out10_B_3_eq (hc : ¬ cond10_0 i) (xo : Vec Ideal S1x8x128 .f32) : out10_B_3 c i a0 h0 a1 h1 a2 h2 a3 h3 hc x0 x1 xo = k10_pay4 x0 x1 xo := by
  unfold out10_B_3
  rw [View.read_writes_eq_canon _ _ _ (cover10_B_3 c i a0 h0 a1 h1 a2 h2 a3 h3 hc x0 x1 xo)]
  unfold kernelRun10_B
  dsimp only
  rw [View.canon_unit_zero hz3]
  simp only [View.readAt_eq_ld, h0.read_unread, h1.read_unread, h3.read_unread, View.ld_unit_zero (S := S1x512x2048) hz3,
    View.ld_unit_zero (S := S1x8x128) hz3]

end Cases

/-- Adding a tile's lanes to what is there. -/
theorem k10_pay4_apply (x0 : Vec Ideal S1x512x2048 .bf16) (x1 : Vec Ideal S1x512x2048 .f32) (xo : Vec Ideal S1x8x128 .f32) (a : Fin 8) (l : Fin 128) :
    k10_pay4 x0 x1 xo (ix3 0 a l) = (xo (ix3 0 a l) + part10 x0 x1 (ix2 a l) : EReal) := by
  unfold k10_pay4
  rw [cast_add, addf_apply]
  exact congrArg (fun z : EReal => z + part10 x0 x1 (ix2 a l)) (cast_drop xo shapeCasts_S1x8x128_S8x128 a l)

/-- Adding a tile's lanes to zero. -/
theorem k10_pay4_zero (x0 : Vec Ideal S1x512x2048 .bf16) (x1 : Vec Ideal S1x512x2048 .f32) (a : Fin 8) (l : Fin 128) :
    k10_pay4 x0 x1 (k10_pay3 (F := Ideal)) (ix3 0 a l) = (part10 x0 x1 (ix2 a l) : EReal) := by
  rw [k10_pay4_apply]
  show Ideal.ofBits .f32 0x00000000#32 + _ = _
  rw [Ideal.ofBits_zero_f32, zero_add]

variable (V : (c : Dev nD) → (b : Ref sig .tc) → Buf (Elt Ideal) ((c : Thread nD τ).loc b))

/-- At every point the first output holds the tile. -/
theorem tile10 (c : Dev nD) (t : Fin cfg10.N) : (outsAt10 V c t.val t.isLt).1 = k10_pay2 (iblk10 V c 0 t) (iblk10 V c 1 t) := by
  by_cases h : t.val % 8 = 0
  · rw [outsAt10_A V c t h]; dsimp only; rw [out10_A_2_eq]
  · rw [outsAt10_B V c t h]; dsimp only; rw [out10_B_2_eq]

/-- Which block each window of the region holds at the region's `t`-th point. -/
theorem at10 : ∀ t : Fin cfg10.N, (win10_0.index t 0 = t.val / 8 ∧ win10_0.index t 1 = t.val % 8 ∧ win10_0.index t 2 = 0)
    ∧ (win10_1.index t 0 = t.val / 8 ∧ win10_1.index t 1 = t.val % 8 ∧ win10_1.index t 2 = 0)
    ∧ (win10_2.index t 0 = t.val / 8 ∧ win10_2.index t 1 = t.val % 8 ∧ win10_2.index t 2 = 0) := by decide +kernel

/-- The tile at a grid point is that block of the whole array. -/
theorem quot10 (c : Dev nD) (t : Fin cfg10.N) (r : Fin 512) (s : Fin 2048) (p : Fin 3) (q : Fin 4096) (u : Fin 2048)
    (p0 : p.val = t.val / 8) (p1 : q.val = t.val % 8 * 512 + r.val) (p2 : u.val = s.val) :
    k10_pay1 (iblk10 V c 0 t) (iblk10 V c 1 t) (ix2 r s)
      = (ada (rd (V c main_arg0 : Vec Ideal S3x4096x2048 .bf16)) (rd (V c main_arg1 : Vec Ideal S3x4096x2048 .f32)) p q u : EReal) := by
  obtain ⟨⟨a0, a1, a2⟩, ⟨b0, b1, b2⟩, -⟩ := at10 t
  have e0 : iblk10 V c 0 t (ix3 0 r s) = rd (V c main_arg0 : Vec Ideal S3x4096x2048 .bf16) p q u :=
    congrArg (V c main_arg0) (ix3_ext
      (by show win10_0.index t 0 * 1 + 1 * 0 = p.val; omega)
      (by show win10_0.index t 1 * 512 + 1 * r.val = q.val; omega)
      (by show win10_0.index t 2 * 2048 + 1 * s.val = u.val; omega))
  have e1 : iblk10 V c 1 t (ix3 0 r s) = rd (V c main_arg1 : Vec Ideal S3x4096x2048 .f32) p q u :=
    congrArg (V c main_arg1) (ix3_ext
      (by show win10_1.index t 0 * 1 + 1 * 0 = p.val; omega)
      (by show win10_1.index t 1 * 512 + 1 * r.val = q.val; omega)
      (by show win10_1.index t 2 * 2048 + 1 * s.val = u.val; omega))
  refine (k10_pay1_apply (iblk10 V c 0 t) (iblk10 V c 1 t) r s).trans ?_
  exact congrArg₂ (fun a b : EReal => Ideal.div a (Ideal.sqrt b + tiny)) e0 e1

/-- The diagonal preconditioner. -/
theorem ada_r (c : Dev nD) : (dat10 V c).arrAt 2 cfg10.N = fun y : S3x4096x2048.Idx => ada (rd (V c main_arg0 : Vec Ideal S3x4096x2048 .bf16)) (rd (V c main_arg1 : Vec Ideal S3x4096x2048 .f32)) (y 0) (y 1) (y 2) := by
  have hN : cfg10.N = 24 := N_10
  refine (dat10 V c).arrAt_eq_of_cover 2 _ (fun t _ => ?_) (fun i => ?_)
  · show (cfg10.win 2).cut (grid10.coords t) ((dat10 V c).after 2 t) = _
    rw [after10_2, tile10]
    obtain ⟨⟨a0, a1, a2⟩, ⟨b0, b1, b2⟩, ⟨z0, z1, z2⟩⟩ := at10 t
    funext y
    obtain ⟨r, s, rfl⟩ := one3 y
    show k10_pay2 (iblk10 V c 0 t) (iblk10 V c 1 t) (ix3 0 r s) = _
    have ht := t.isLt
    have hr := r.isLt
    have hs := s.isLt
    obtain ⟨p, q, u, hp⟩ : ∃ (p : Fin 3) (q : Fin 4096) (u : Fin 2048), (((cfg10.win 2).blk t).view.emb (ix3 0 r s) : S3x4096x2048.Idx) = ix3 p q u := ⟨_, _, _, eq_ix3 _⟩
    have p0 : win10_2.index t 0 * 1 + 1 * 0 = p.val := congrArg (fun j : S3x4096x2048.Idx => (j 0).val) hp
    have p1 : win10_2.index t 1 * 512 + 1 * r.val = q.val := congrArg (fun j : S3x4096x2048.Idx => (j 1).val) hp
    have p2 : win10_2.index t 2 * 2048 + 1 * s.val = u.val := congrArg (fun j : S3x4096x2048.Idx => (j 2).val) hp
    refine Eq.trans ?_ (congrArg (fun y : S3x4096x2048.Idx => ada (rd (V c main_arg0 : Vec Ideal S3x4096x2048 .bf16)) (rd (V c main_arg1 : Vec Ideal S3x4096x2048 .f32)) (y 0) (y 1) (y 2)) hp).symm
    show _ = ada (rd (V c main_arg0 : Vec Ideal S3x4096x2048 .bf16)) (rd (V c main_arg1 : Vec Ideal S3x4096x2048 .f32)) p q u
    have hk : k10_pay2 (iblk10 V c 0 t) (iblk10 V c 1 t) (ix3 0 r s) = k10_pay1 (iblk10 V c 0 t) (iblk10 V c 1 t) (ix2 r s) :=
      cast_add (k10_pay1 (iblk10 V c 0 t) (iblk10 V c 1 t)) shapeCasts_S512x2048_S1x512x2048 (ix3 0 r s)
    exact hk.trans (quot10 V c t r s p q u (by omega) (by omega) (by omega))
  · have i0 : (i 0).val < 3 := (i 0).isLt
    have i1 : (i 1).val < 4096 := (i 1).isLt
    have i2 : (i 2).val < 2048 := (i 2).isLt
    let t : Fin cfg10.N := ⟨(i 0).val * 8 + (i 1).val / 512, by omega⟩
    obtain ⟨-, -, ⟨z0, z1, z2⟩⟩ := at10 t
    refine ⟨t, flush10_2 t, ?_⟩
    show i ∈ ((View.whole main_v14_0).slice (win10_2.rect t)).set
    rw [View.set_slice_whole, Rect.mem_set_unit]
    refine all3 ?_ ?_ ?_
    · show win10_2.index t 0 * 1 ≤ (i 0).val ∧ (i 0).val < win10_2.index t 0 * 1 + 1
      rw [z0]; dsimp only [t]; omega
    · show win10_2.index t 1 * 512 ≤ (i 1).val ∧ (i 1).val < win10_2.index t 1 * 512 + 512
      rw [z1]; dsimp only [t]; omega
    · show win10_2.index t 2 * 2048 ≤ (i 2).val ∧ (i 2).val < win10_2.index t 2 * 2048 + 2048
      rw [z2]; dsimp only [t]; omega

/-- Which block of the lanes' array the region's `t`-th point holds. -/
theorem ixn10 : ∀ t : Fin cfg10.N, win10_3.index t 0 = t.val / 8 ∧ win10_3.index t 1 = 0 ∧ win10_3.index t 2 = 0 := by decide +kernel

/-- The grid point of batch entry `b`'s `s`-th step. -/
def pt10 (b : Fin 3) (s : Fin 8) : Fin cfg10.N := ⟨b.val * 8 + s.val, by have hN : cfg10.N = 24 := N_10; omega⟩

/-- A batch entry's lanes: the parts of its eight points. -/
def lanes10 (c : Dev nD) (b : Fin 3) (a : Fin 8) (l : Fin 128) : EReal :=
  ∑ s : Fin 8, (part10 (iblk10 V c 0 (pt10 b s)) (iblk10 V c 1 (pt10 b s)) (ix2 a l) : EReal)

/-- At a batch entry's last point the second output holds them. -/
theorem outs10_at (c : Dev nD) (n : ℕ) (hn : n < cfg10.N) (b : Fin 3) (a : Fin 8) (l : Fin 128) (h : n = b.val * 8 + 7) :
    (outsAt10 V c n hn).2 (ix3 0 a l) = (lanes10 V c b a l : EReal) := by
  subst h
  exact acc8 (fun t => (outsAt10 V c t.val t.isLt).2 (ix3 0 a l)) (fun t => part10 (iblk10 V c 0 t) (iblk10 V c 1 t) (ix2 a l))
    (fun t h => by
      show (outsAt10 V c t.val t.isLt).2 (ix3 0 a l) = _
      rw [outsAt10_A V c t h]; dsimp only; rw [out10_A_3_eq]; exact k10_pay4_zero ..)
    (fun t h => by
      show (outsAt10 V c t.val t.isLt).2 (ix3 0 a l) = _
      rw [outsAt10_B V c t h]; dsimp only; rw [out10_B_3_eq]; exact k10_pay4_apply ..) b.val hn

/-- At a batch entry's last point the region writes back that entry's lanes. -/
theorem ada_lanes (c : Dev nD) : (dat10 V c).arrAt 3 cfg10.N = fun y : S3x8x128.Idx => lanes10 V c (y 0) (y 1) (y 2) := by
  have hN : cfg10.N = 24 := N_10
  refine (dat10 V c).arrAt_eq_of_cover 3 _ (fun t ht => ?_) (fun i => ?_)
  · have h7 : t.val % 8 = 7 := (flush10_3 t).1 ht
    show (cfg10.win 3).cut (grid10.coords t) ((dat10 V c).after 3 t) = _
    rw [after10_3]
    obtain ⟨z0, z1, z2⟩ := ixn10 t
    funext y
    obtain ⟨r, s, rfl⟩ := one3 y
    show (outsAt10 V c t.val t.isLt).2 (ix3 0 r s) = _
    have hr := r.isLt
    have hs := s.isLt
    obtain ⟨p, q, u, hp⟩ : ∃ (p : Fin 3) (q : Fin 8) (u : Fin 128), (((cfg10.win 3).blk t).view.emb (ix3 0 r s) : S3x8x128.Idx) = ix3 p q u := ⟨_, _, _, eq_ix3 _⟩
    have p0 : win10_3.index t 0 * 1 + 1 * 0 = p.val := congrArg (fun j : S3x8x128.Idx => (j 0).val) hp
    have p1 : win10_3.index t 1 * 8 + 1 * r.val = q.val := congrArg (fun j : S3x8x128.Idx => (j 1).val) hp
    have p2 : win10_3.index t 2 * 128 + 1 * s.val = u.val := congrArg (fun j : S3x8x128.Idx => (j 2).val) hp
    refine Eq.trans ?_ (congrArg (fun y : S3x8x128.Idx => lanes10 V c (y 0) (y 1) (y 2)) hp).symm
    show _ = lanes10 V c p q u
    obtain rfl : q = r := Fin.ext (by omega)
    obtain rfl : u = s := Fin.ext (by omega)
    have htv : t.val = p.val * 8 + 7 := by omega
    exact (outs10_at V c t.val t.isLt p q u htv)
  · have i0 : (i 0).val < 3 := (i 0).isLt
    have i1 : (i 1).val < 8 := (i 1).isLt
    have i2 : (i 2).val < 128 := (i 2).isLt
    let t : Fin cfg10.N := ⟨(i 0).val * 8 + 7, by omega⟩
    obtain ⟨z0, z1, z2⟩ := ixn10 t
    refine ⟨t, (flush10_3 t).2 (by dsimp only [t]; omega), ?_⟩
    show i ∈ ((View.whole main_v14_1).slice (win10_3.rect t)).set
    rw [View.set_slice_whole, Rect.mem_set_unit]
    refine all3 ?_ ?_ ?_
    · show win10_3.index t 0 * 1 ≤ (i 0).val ∧ (i 0).val < win10_3.index t 0 * 1 + 1
      rw [z0]; dsimp only [t]; omega
    · show win10_3.index t 1 * 8 ≤ (i 1).val ∧ (i 1).val < win10_3.index t 1 * 8 + 8
      rw [z1]; omega
    · show win10_3.index t 2 * 128 ≤ (i 2).val ∧ (i 2).val < win10_3.index t 2 * 128 + 128
      rw [z2]; omega

/-- The lanes of a batch entry together are its sum of squares. -/
theorem ada_sq (c : Dev nD) (b : Fin 3) : (∑ a, ∑ l, lanes10 V c b a l)
    = sq (ada (rd (V c main_arg0 : Vec Ideal S3x4096x2048 .bf16)) (rd (V c main_arg1 : Vec Ideal S3x4096x2048 .f32))) b := by
  unfold lanes10 sq
  rw [lane_sum, blk_sum (a := 8) (b := 512) rfl]
  refine Finset.sum_congr rfl fun i _ => ?_
  refine (part10_total _ _).trans (Finset.sum_congr rfl fun r _ => Finset.sum_congr rfl fun s _ => ?_)
  have hi := i.isLt
  have e := quot10 V c (pt10 b i) r s b (blkIx rfl i r) s
    (by show b.val = (b.val * 8 + i.val) / 8; omega)
    (by show i.val * 512 + r.val = (b.val * 8 + i.val) % 8 * 512 + r.val; omega) rfl
  exact congrArg₂ (fun a b : EReal => a * b) e e

end Cert.Proof

end
-- ==== Proof.Graft.lean ====
/- The rescaling of the preconditioned gradient: the array the last region leaves. -/
module

public import proofs.«01_k».proof.Proof.Math
public import proofs.«01_k».proof.Proof.Tiles
public import proofs.«01_k».proof.Proof.Norm
public import proofs.«01_k».proof.Proof.Gen.KernelIdeal.Frame.Region11

@[expose] public section

noncomputable section

namespace Cert.Proof

open Idealize.ShloMosaic Idealize.ShloMosaic.ValueIdx Idealize.ShloMosaic.TcCoe
open Cert.KernelIdeal Cert.KernelIdeal.Gen

/-- The sum of a block of lanes, as the body takes it. -/
theorem lanes_total (v : Vec Ideal S1x8x128 .f32) :
    extractAt ![0, 0, 0] (shapeCast S1x1x1 (multiReduction (F := Ideal) (φ := .f32) .add [1, 2] S1
      (shapeCast S1x8x128 (shapeCast S8x128 v shapeCasts_S1x8x128_S8x128) shapeCasts_S8x128_S1x8x128) 0x00000000#32 reduces_S1x8x128_S1 (.inl rfl) rfl)
      shapeCasts_S1_S1x1x1) inpos_S1x1x1_p0_0_0 = (∑ a : Fin 8, ∑ l : Fin 128, (v (ix3 0 a l) : EReal) : EReal) := by
  refine (Ideal.multiReduction_add_total (φ := .f32) _ _ reduces_S1x8x128_S1 (fun b => by match b with | ⟨0, _⟩ => rfl) (.inl rfl) rfl _).trans ?_
  refine (cast_total (shapeCast S8x128 (α := EReal) v shapeCasts_S1x8x128_S8x128) shapeCasts_S8x128_S1x8x128).trans ?_
  refine (sum_idx2 _).trans ?_
  exact Finset.sum_congr rfl fun a _ => Finset.sum_congr rfl fun l _ => cast_drop v shapeCasts_S1x8x128_S8x128 a l

/-- A tile of the rescaled direction. -/
theorem k11_pay1_apply (x0 x1 : Vec Ideal S1x8x128 .f32) (x2 : Vec Ideal S1x512x2048 .f32) (r : Fin 512) (c : Fin 2048) :
    k11_pay1 x0 x1 x2 (ix3 0 r c) = (x2 (ix3 0 r c) * Ideal.div (Ideal.sqrt (∑ a : Fin 8, ∑ l : Fin 128, (x0 (ix3 0 a l) : EReal)))
      (Ideal.sqrt (∑ a : Fin 8, ∑ l : Fin 128, (x1 (ix3 0 a l) : EReal))) : EReal) := by
  unfold k11_pay1
  rw [cast_add, mulf_apply]
  refine congrArg₂ (fun a b : EReal => a * b) (cast_drop x2 shapeCasts_S1x512x2048_S512x2048 r c) ?_
  refine (broadcastTo_apply _ _ _ (ix2 (0 : Fin 1) (0 : Fin 1)) (fun a => by
    match a with
    | ⟨0, _⟩ => rfl
    | ⟨1, _⟩ => rfl)).trans ?_
  exact congrArg₂ (fun a b : EReal => Ideal.div (Ideal.sqrt a) (Ideal.sqrt b)) (lanes_total x0) (lanes_total x1)

variable (V : (c : Dev nD) → (b : Ref sig .tc) → Buf (Elt Ideal) ((c : Thread nD τ).loc b))

/-- Which block each window of the region holds at the region's `t`-th point. -/
theorem at11 : ∀ t : Fin cfg11.N, (win11_0.index t 0 = t.val / 8 ∧ win11_0.index t 1 = t.val % 8 ∧ win11_0.index t 2 = 0)
    ∧ (win11_1.index t 0 = t.val / 8 ∧ win11_1.index t 1 = 0 ∧ win11_1.index t 2 = 0)
    ∧ (win11_2.index t 0 = t.val / 8 ∧ win11_2.index t 1 = 0 ∧ win11_2.index t 2 = 0)
    ∧ (win11_3.index t 0 = t.val / 8 ∧ win11_3.index t 1 = t.val % 8 ∧ win11_3.index t 2 = 0) := by decide +kernel

/-- The preconditioned gradient with the norm of the diagonal one. -/
theorem graft_r (c : Dev nD) : (dat11 V c).arrAt 3 cfg11.N = fun y : S3x4096x2048.Idx => graft (rd (V c main_v13_0 : Vec Ideal S3x4096x2048 .f32)) (fun b => ∑ a : Fin 8, ∑ l : Fin 128, ((V c main_v14_1 : Vec Ideal S3x8x128 .f32) (ix3 b a l) : EReal)) (fun b => ∑ a : Fin 8, ∑ l : Fin 128, ((V c main_v13_1 : Vec Ideal S3x8x128 .f32) (ix3 b a l) : EReal)) (y 0) (y 1) (y 2) := by
  have hN : cfg11.N = 24 := N_11
  refine (dat11 V c).arrAt_eq_of_cover 3 _ (fun t _ => ?_) (fun i => ?_)
  · show (cfg11.win 3).cut (grid11.coords t) ((dat11 V c).after 3 t) = _
    rw [after11_3]
    unfold out11_3
    rw [View.canon_unit_zero hz3, View.ld_unit_zero hz3, View.ld_unit_zero hz3, View.ld_unit_zero hz3]
    obtain ⟨⟨a0, a1, a2⟩, ⟨b0, b1, b2⟩, ⟨c0, c1, c2⟩, ⟨z0, z1, z2⟩⟩ := at11 t
    funext y
    obtain ⟨r, s, rfl⟩ := one3 y
    show k11_pay1 (iblk11 V c 2 t) (iblk11 V c 1 t) (iblk11 V c 0 t) (ix3 0 r s) = _
    have ht := t.isLt
    have hr := r.isLt
    have hs := s.isLt
    obtain ⟨p, q, u, hp⟩ : ∃ (p : Fin 3) (q : Fin 4096) (u : Fin 2048), (((cfg11.win 3).blk t).view.emb (ix3 0 r s) : S3x4096x2048.Idx) = ix3 p q u := ⟨_, _, _, eq_ix3 _⟩
    have p0 : win11_3.index t 0 * 1 + 1 * 0 = p.val := congrArg (fun j : S3x4096x2048.Idx => (j 0).val) hp
    have p1 : win11_3.index t 1 * 512 + 1 * r.val = q.val := congrArg (fun j : S3x4096x2048.Idx => (j 1).val) hp
    have p2 : win11_3.index t 2 * 2048 + 1 * s.val = u.val := congrArg (fun j : S3x4096x2048.Idx => (j 2).val) hp
    refine Eq.trans ?_ (congrArg (fun y : S3x4096x2048.Idx => graft (rd (V c main_v13_0 : Vec Ideal S3x4096x2048 .f32)) (fun b => ∑ a : Fin 8, ∑ l : Fin 128, ((V c main_v14_1 : Vec Ideal S3x8x128 .f32) (ix3 b a l) : EReal)) (fun b => ∑ a : Fin 8, ∑ l : Fin 128, ((V c main_v13_1 : Vec Ideal S3x8x128 .f32) (ix3 b a l) : EReal)) (y 0) (y 1) (y 2)) hp).symm
    show _ = graft (rd (V c main_v13_0 : Vec Ideal S3x4096x2048 .f32)) (fun b => ∑ a : Fin 8, ∑ l : Fin 128, ((V c main_v14_1 : Vec Ideal S3x8x128 .f32) (ix3 b a l) : EReal)) (fun b => ∑ a : Fin 8, ∑ l : Fin 128, ((V c main_v13_1 : Vec Ideal S3x8x128 .f32) (ix3 b a l) : EReal)) p q u
    have e0 : iblk11 V c 0 t (ix3 0 r s) = rd (V c main_v13_0 : Vec Ideal S3x4096x2048 .f32) p q u :=
      congrArg (V c main_v13_0) (ix3_ext
        (by show win11_0.index t 0 * 1 + 1 * 0 = p.val; omega)
        (by show win11_0.index t 1 * 512 + 1 * r.val = q.val; omega)
        (by show win11_0.index t 2 * 2048 + 1 * s.val = u.val; omega))
    have e1 : ∀ (k : Fin 8) (l : Fin 128), iblk11 V c 1 t (ix3 0 k l) = rd (V c main_v13_1 : Vec Ideal S3x8x128 .f32) p k l := fun k l =>
      congrArg (V c main_v13_1) (ix3_ext
        (by show win11_1.index t 0 * 1 + 1 * 0 = p.val; omega)
        (by show win11_1.index t 1 * 8 + 1 * k.val = k.val; omega)
        (by show win11_1.index t 2 * 128 + 1 * l.val = l.val; omega))
    have e2 : ∀ (k : Fin 8) (l : Fin 128), iblk11 V c 2 t (ix3 0 k l) = rd (V c main_v14_1 : Vec Ideal S3x8x128 .f32) p k l := fun k l =>
      congrArg (V c main_v14_1) (ix3_ext
        (by show win11_2.index t 0 * 1 + 1 * 0 = p.val; omega)
        (by show win11_2.index t 1 * 8 + 1 * k.val = k.val; omega)
        (by show win11_2.index t 2 * 128 + 1 * l.val = l.val; omega))
    refine (k11_pay1_apply (iblk11 V c 2 t) (iblk11 V c 1 t) (iblk11 V c 0 t) r s).trans ?_
    unfold graft
    exact congrArg₂ (fun a b : EReal => a * b) e0 (congrArg₂ (fun a b : EReal => Ideal.div (Ideal.sqrt a) (Ideal.sqrt b))
      (Finset.sum_congr rfl fun k _ => Finset.sum_congr rfl fun l _ => e2 k l) (Finset.sum_congr rfl fun k _ => Finset.sum_congr rfl fun l _ => e1 k l))
  · have i0 : (i 0).val < 3 := (i 0).isLt
    have i1 : (i 1).val < 4096 := (i 1).isLt
    have i2 : (i 2).val < 2048 := (i 2).isLt
    let t : Fin cfg11.N := ⟨(i 0).val * 8 + (i 1).val / 512, by omega⟩
    obtain ⟨-, -, -, ⟨z0, z1, z2⟩⟩ := at11 t
    refine ⟨t, flush11_3 t, ?_⟩
    show i ∈ ((View.whole main_v15).slice (win11_3.rect t)).set
    rw [View.set_slice_whole, Rect.mem_set_unit]
    refine all3 ?_ ?_ ?_
    · show win11_3.index t 0 * 1 ≤ (i 0).val ∧ (i 0).val < win11_3.index t 0 * 1 + 1
      rw [z0]; dsimp only [t]; omega
    · show win11_3.index t 1 * 512 ≤ (i 1).val ∧ (i 1).val < win11_3.index t 1 * 512 + 512
      rw [z1]; dsimp only [t]; omega
    · show win11_3.index t 2 * 2048 ≤ (i 2).val ∧ (i 2).val < win11_3.index t 2 * 2048 + 2048
      rw [z2]; dsimp only [t]; omega

end Cert.Proof

end
-- ==== Proof.Chain.lean ====
/- The arrays of the kernel one after the other, from its arguments to its two results. -/
module

public import proofs.«01_k».proof.Proof.Decode
public import proofs.«01_k».proof.Proof.Gram
public import proofs.«01_k».proof.Proof.Corr
public import proofs.«01_k».proof.Proof.Turn
public import proofs.«01_k».proof.Proof.Prec
public import proofs.«01_k».proof.Proof.Ada
public import proofs.«01_k».proof.Proof.Graft
public import proofs.«01_k».proof.Proof.Gen.KernelIdeal.Frame.Fold0

@[expose] public section

noncomputable section

namespace Cert.Proof

open Idealize.ShloMosaic Idealize.ShloMosaic.ValueIdx Idealize.ShloMosaic.TcCoe
open Cert.KernelIdeal Cert.KernelIdeal.Gen

variable (m : (ℓ : Loc nD τ sig) → Buf (Elt Ideal) ℓ) (ρ : Dev nD → PrngReg) (c : Dev nD)

/-! ## The arguments as plain functions -/

/-- The gradient. -/
def argG : Arr 4096 2048 := rd (m ((c : Thread nD τ).loc main_arg0) : Vec Ideal S3x4096x2048 .bf16)
/-- The accumulator. -/
def argA : Arr 4096 2048 := rd (m ((c : Thread nD τ).loc main_arg1) : Vec Ideal S3x4096x2048 .f32)
/-- The left factor, decoded. -/
def argL : Arr 4096 4096 := flat (half := 2048) rfl (decoded (n := 4096) (half := 2048) (g := 64) rfl
  (rd (m ((c : Thread nD τ).loc main_arg2) : S3x4096x2048.Idx → BitVec 8)) (rd (m ((c : Thread nD τ).loc main_arg3) : Vec Ideal S3x4096x64 .f32)))
/-- The left eigenvalues. -/
def argDL : Arr 4096 1 := fun b i _ => (m ((c : Thread nD τ).loc main_arg4) : Vec Ideal S3x4096 .f32) (ix2 b i)
/-- The right factor, decoded. -/
def argR : Arr 2048 2048 := flat (half := 1024) rfl (decoded (n := 2048) (half := 1024) (g := 32) rfl
  (rd (m ((c : Thread nD τ).loc main_arg5) : S3x2048x1024.Idx → BitVec 8)) (rd (m ((c : Thread nD τ).loc main_arg6) : Vec Ideal S3x2048x32 .f32)))
/-- The right eigenvalues. -/
def argDR : Arr 2048 1 := fun b i _ => (m ((c : Thread nD τ).loc main_arg7) : Vec Ideal S3x2048 .f32) (ix2 b i)

/-! ## The chain -/

/-- The lanes of the partial sums, together. -/
def lanesum (x : Vec Ideal S3x8x128 .f32) : Fin 3 → EReal := fun b => ∑ a : Fin 8, ∑ l : Fin 128, (x (ix3 b a l) : EReal)

/-- The lanes of an array given at every index by a plain function. -/
theorem lanesum_of {x : Vec Ideal S3x8x128 .f32} {f : Fin 3 → Fin 8 → Fin 128 → EReal} (h : x = fun y : S3x8x128.Idx => f (y 0) (y 1) (y 2)) (b : Fin 3) :
    lanesum x b = ∑ a, ∑ l, f b a l := by
  subst h; rfl

/-- An array given at every index by a plain function is that function. -/
theorem rd_of {a b : ℕ} {x : (⟨3, ![3, a, b]⟩ : Shape).Idx → EReal} {f : Arr a b} (h : x = fun y => f (y 0) (y 1) (y 2)) : rd x = f := by
  subst h; rfl

/-- The halves of a decoded factor reshaped into one array. -/
theorem flat_reshape {n half : ℕ} (hn : n = 2 * half) (d : Fin 3 → Fin 2 → Fin half → Fin n → EReal) (x : (⟨4, ![3, 2, half, n]⟩ : Shape).Idx → EReal)
    (hx : x = fun y => d (y 0) (y 1) (y 2) (y 3)) (h : (⟨4, ![3, 2, half, n]⟩ : Shape).ShapeCasts ⟨3, ![3, n, n]⟩) :
    rd (shapeCast ⟨3, ![3, n, n]⟩ x h) = flat hn d := by
  funext b k i
  subst hx
  have hk := k.isLt
  refine (shapeCast_apply _ h (ix3 b k i) (ix4 b (⟨k.val / half, Nat.div_lt_of_lt_mul (by omega)⟩ : Fin 2) (⟨k.val % half, Nat.mod_lt _ (by omega)⟩ : Fin half) i) ?_).trans rfl
  rw [Shape.rowMajor_val_three, Shape.rowMajor_val_four]
  show ((b.val * 2 + k.val / half) * half + k.val % half) * n + i.val = (b.val * n + k.val) * n + i.val
  have e : (b.val * 2 + k.val / half) * half + k.val % half = b.val * n + k.val := by
    have h1 := Nat.div_add_mod' k.val half
    have h2 : b.val * n = b.val * 2 * half := by rw [hn, Nat.mul_assoc]
    rw [Nat.add_mul]; omega
  rw [e]

/-- The decoded factor, reshaped. -/
theorem at_main_v1 : rd (V2 m ρ c main_v1 : Vec Ideal S3x4096x4096 .bf16) = argL m c := by
  have h0 : (W1 m ρ c (Proc.devRef .tc main_v0) : Vec Ideal S3x2x2048x4096 .bf16) = fun y : S3x2x2048x4096.Idx => decoded (n := 4096) (half := 2048) (g := 64) rfl
      (rd (m ((c : Thread nD τ).loc main_arg2) : S3x4096x2048.Idx → BitVec 8)) (rd (m ((c : Thread nD τ).loc main_arg3) : Vec Ideal S3x4096x64 .f32)) (y 0) (y 1) (y 2) (y 3) := by
    refine (W1_arr m ρ c 2).trans ((decode_l (V0 m ρ) c).trans ?_)
    have a0 : V0 m ρ c main_arg2 = m ((c : Thread nD τ).loc main_arg2) := W0_args m ρ c main_arg2 (by decide)
    have a1 : V0 m ρ c main_arg3 = m ((c : Thread nD τ).loc main_arg3) := W0_args m ρ c main_arg3 (by decide)
    rw [a0, a1]
  refine Eq.trans ?_ (flat_reshape (half := 2048) rfl _ _ h0 shapeCasts_S3x2x2048x4096_S3x4096x4096)
  rfl

/-- The decoded factor, reshaped. -/
theorem at_main_v5 : rd (V6 m ρ c main_v5 : Vec Ideal S3x2048x2048 .bf16) = argR m c := by
  have h0 : (W5 m ρ c (Proc.devRef .tc main_v4) : Vec Ideal S3x2x1024x2048 .bf16) = fun y : S3x2x1024x2048.Idx => decoded (n := 2048) (half := 1024) (g := 32) rfl
      (rd (m ((c : Thread nD τ).loc main_arg5) : S3x2048x1024.Idx → BitVec 8)) (rd (m ((c : Thread nD τ).loc main_arg6) : Vec Ideal S3x2048x32 .f32)) (y 0) (y 1) (y 2) (y 3) := by
    refine (W5_arr m ρ c 2).trans ((decode_r (V4 m ρ) c).trans ?_)
    have a0 : V4 m ρ c main_arg5 = m ((c : Thread nD τ).loc main_arg5) := W4_args m ρ c main_arg5 (by decide)
    have a1 : V4 m ρ c main_arg6 = m ((c : Thread nD τ).loc main_arg6) := W4_args m ρ c main_arg6 (by decide)
    rw [a0, a1]
  refine Eq.trans ?_ (flat_reshape (half := 1024) rfl _ _ h0 shapeCasts_S3x2x1024x2048_S3x2048x2048)
  rfl

/-- The left gram matrix less the identity. -/
theorem at_main_v2 : rd (V3 m ρ c main_v2 : Vec Ideal S3x4096x4096 .bf16) = gram (argL m c) := by
  have h := rd_of ((W3_arr m ρ c 2).trans (gram_l (V2 m ρ) c))
  rwa [at_main_v1] at h

/-- Still there when it is next read. -/
theorem keep_main_v1 : rd (V3 m ρ c main_v1 : Vec Ideal S3x4096x4096 .bf16) = argL m c :=
  (congrArg (fun x : Vec Ideal S3x4096x4096 .bf16 => rd x) (W3_of m ρ c main_v1 (by decide))).trans (at_main_v1 m ρ c)

/-- The left factor, corrected. -/
theorem at_main_v3 : rd (V4 m ρ c main_v3 : Vec Ideal S3x4096x4096 .bf16) = factor (argL m c) := by
  have h := rd_of ((W4_arr m ρ c 3).trans (corr_l (V3 m ρ) c))
  rwa [at_main_v2, keep_main_v1] at h

/-- The right gram matrix less the identity. -/
theorem at_main_v6 : rd (V7 m ρ c main_v6 : Vec Ideal S3x2048x2048 .bf16) = gram (argR m c) := by
  have h := rd_of ((W7_arr m ρ c 2).trans (gram_r (V6 m ρ) c))
  rwa [at_main_v5] at h

/-- Still there when it is next read. -/
theorem keep_main_v5 : rd (V7 m ρ c main_v5 : Vec Ideal S3x2048x2048 .bf16) = argR m c :=
  (congrArg (fun x : Vec Ideal S3x2048x2048 .bf16 => rd x) (W7_of m ρ c main_v5 (by decide))).trans (at_main_v5 m ρ c)

/-- The right factor, corrected. -/
theorem at_main_v7 : rd (V8 m ρ c main_v7 : Vec Ideal S3x2048x2048 .bf16) = factor (argR m c) := by
  have h := rd_of ((W8_arr m ρ c 3).trans (corr_r (V7 m ρ) c))
  rwa [at_main_v6, keep_main_v5] at h

/-- The eigenvalues as a column. -/
theorem at_main_v8 : rd (V9 m ρ c main_v8 : Vec Ideal S3x4096x1 .f32) = argDL m c := by
  have h0 : (W8 m ρ c (Proc.devRef .tc main_arg4) : Vec Ideal S3x4096 .f32) = m ((c : Thread nD τ).loc main_arg4) := W8_args m ρ c main_arg4 (by decide)
  have h1 : (V9 m ρ c main_v8 : Vec Ideal S3x4096x1 .f32) = broadcastInDim S3x4096x1 ![0, 1] bcast_S3x4096_S3x4096x1_0_1 (W8 m ρ c (Proc.devRef .tc main_arg4) : Vec Ideal S3x4096 .f32) := rfl
  rw [h1]
  funext b i z
  refine (broadcastInDim_apply _ _ _ (ix3 b i z) (ix2 b i) (fun a => by
    match a with
    | ⟨0, _⟩ => rfl
    | ⟨1, _⟩ => rfl)).trans ?_
  exact congrArg (fun x : Vec Ideal S3x4096 .f32 => x (ix2 b i)) h0

/-- Still there when it is next read. -/
theorem keep_main_v3 : rd (V9 m ρ c main_v3 : Vec Ideal S3x4096x4096 .bf16) = factor (argL m c) :=
  (congrArg (fun x : Vec Ideal S3x4096x4096 .bf16 => rd x) ((W9_of m ρ c main_v3 (by decide)).trans ((W8_of m ρ c main_v3 (by decide)).trans ((W7_of m ρ c main_v3 (by decide)).trans ((W6_of m ρ c main_v3 (by decide)).trans (W5_of m ρ c main_v3 (by decide))))))).trans (at_main_v3 m ρ c)

/-- The gradient is still there. -/
theorem keep_arg0 : rd (V9 m ρ c main_arg0 : Vec Ideal S3x4096x2048 .bf16) = argG m c :=
  congrArg (fun x : Vec Ideal S3x4096x2048 .bf16 => rd x) (W9_args m ρ c main_arg0 (by decide))

/-- The gradient turned by the left factor. -/
theorem at_main_v9 : rd (V10 m ρ c main_v9 : Vec Ideal S3x4096x2048 .bf16) = turn (factor (argL m c)) (argG m c) (argDL m c) := by
  have h := rd_of ((W10_arr m ρ c 3).trans (turn_l (V9 m ρ) c))
  rwa [keep_main_v3, keep_arg0, at_main_v8] at h

/-- The eigenvalues as a column. -/
theorem at_main_v10 : rd (V11 m ρ c main_v10 : Vec Ideal S3x2048x1 .f32) = argDR m c := by
  have h0 : (W10 m ρ c (Proc.devRef .tc main_arg7) : Vec Ideal S3x2048 .f32) = m ((c : Thread nD τ).loc main_arg7) := W10_args m ρ c main_arg7 (by decide)
  have h1 : (V11 m ρ c main_v10 : Vec Ideal S3x2048x1 .f32) = broadcastInDim S3x2048x1 ![0, 1] bcast_S3x2048_S3x2048x1_0_1 (W10 m ρ c (Proc.devRef .tc main_arg7) : Vec Ideal S3x2048 .f32) := rfl
  rw [h1]
  funext b i z
  refine (broadcastInDim_apply _ _ _ (ix3 b i z) (ix2 b i) (fun a => by
    match a with
    | ⟨0, _⟩ => rfl
    | ⟨1, _⟩ => rfl)).trans ?_
  exact congrArg (fun x : Vec Ideal S3x2048 .f32 => x (ix2 b i)) h0

/-- Still there when it is next read. -/
theorem keep_main_v7 : rd (V11 m ρ c main_v7 : Vec Ideal S3x2048x2048 .bf16) = factor (argR m c) :=
  (congrArg (fun x : Vec Ideal S3x2048x2048 .bf16 => rd x) ((W11_of m ρ c main_v7 (by decide)).trans ((W10_of m ρ c main_v7 (by decide)).trans (W9_of m ρ c main_v7 (by decide))))).trans (at_main_v7 m ρ c)

/-- Still there when it is next read. -/
theorem keep_main_v9 : rd (V11 m ρ c main_v9 : Vec Ideal S3x4096x2048 .bf16) = turn (factor (argL m c)) (argG m c) (argDL m c) :=
  (congrArg (fun x : Vec Ideal S3x4096x2048 .bf16 => rd x) (W11_of m ρ c main_v9 (by decide))).trans (at_main_v9 m ρ c)

/-- And by the right factor. -/
theorem at_main_v11 : rd (V12 m ρ c main_v11 : Vec Ideal S3x2048x4096 .bf16) = turnT (factor (argR m c)) (turn (factor (argL m c)) (argG m c) (argDL m c)) (argDR m c) := by
  have h := rd_of ((W12_arr m ρ c 3).trans (turn_r (V11 m ρ) c))
  rwa [keep_main_v7, keep_main_v9, at_main_v10] at h

/-- Still there when it is next read. -/
theorem keep_main_v3' : rd (V12 m ρ c main_v3 : Vec Ideal S3x4096x4096 .bf16) = factor (argL m c) :=
  (congrArg (fun x : Vec Ideal S3x4096x4096 .bf16 => rd x) ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans (W5_of m ρ c main_v3 (by decide)))))))))).trans (at_main_v3 m ρ c)

/-- Turned back by the left factor. -/
theorem at_main_v12 : rd (V13 m ρ c main_v12 : Vec Ideal S3x4096x2048 .bf16) = back (turnT (factor (argR m c)) (turn (factor (argL m c)) (argG m c) (argDL m c)) (argDR m c)) (factor (argL m c)) := by
  have h := rd_of ((W13_arr m ρ c 2).trans (back_l (V12 m ρ) c))
  rwa [at_main_v11, keep_main_v3'] at h

/-- Still there when it is next read. -/
theorem keep_main_v7' : rd (V13 m ρ c main_v7 : Vec Ideal S3x2048x2048 .bf16) = factor (argR m c) :=
  (congrArg (fun x : Vec Ideal S3x2048x2048 .bf16 => rd x) ((W13_of m ρ c main_v7 (by decide)).trans ((W12_of m ρ c main_v7 (by decide)).trans ((W11_of m ρ c main_v7 (by decide)).trans ((W10_of m ρ c main_v7 (by decide)).trans (W9_of m ρ c main_v7 (by decide))))))).trans (at_main_v7 m ρ c)

/-- The preconditioned gradient. -/
theorem at_main_v13_0 : rd (V14 m ρ c main_v13_0 : Vec Ideal S3x4096x2048 .f32) = direction (argG m c) (factor (argL m c)) (argDL m c) (factor (argR m c)) (argDR m c) := by
  have h := rd_of ((W14_arr m ρ c 2).trans (prec_r (V13 m ρ) c))
  rwa [at_main_v12, keep_main_v7'] at h

/-- Its norm, squared: the lanes of the partial sums together. -/
theorem at_main_v13_1 (b : Fin 3) : lanesum (V14 m ρ c main_v13_1) b = sq (direction (argG m c) (factor (argL m c)) (argDL m c) (factor (argR m c)) (argDR m c)) b := by
  have h : (V14 m ρ c main_v13_1 : Vec Ideal S3x8x128 .f32) = fun y : S3x8x128.Idx => lanes9 (V13 m ρ) c (y 0) (y 1) (y 2) :=
    (W14_arr m ρ c 3).trans (prec_lanes (V13 m ρ) c)
  have hs := prec_sq (V13 m ρ) c b
  rw [at_main_v12, keep_main_v7'] at hs
  exact (lanesum_of h b).trans hs

/-- The gradient and the accumulator are still there. -/
theorem keep_arg0' : rd (V14 m ρ c main_arg0 : Vec Ideal S3x4096x2048 .bf16) = argG m c :=
  congrArg (fun x : Vec Ideal S3x4096x2048 .bf16 => rd x) (W14_args m ρ c main_arg0 (by decide))
theorem keep_arg1 : rd (V14 m ρ c main_arg1 : Vec Ideal S3x4096x2048 .f32) = argA m c :=
  congrArg (fun x : Vec Ideal S3x4096x2048 .f32 => rd x) (W14_args m ρ c main_arg1 (by decide))

/-- The diagonally preconditioned gradient. -/
theorem at_main_v14_0 : rd (V15 m ρ c main_v14_0 : Vec Ideal S3x4096x2048 .f32) = ada (argG m c) (argA m c) := by
  have h := rd_of ((W15_arr m ρ c 2).trans (ada_r (V14 m ρ) c))
  rwa [keep_arg0', keep_arg1] at h

/-- Its norm, squared. -/
theorem at_main_v14_1 (b : Fin 3) : lanesum (V15 m ρ c main_v14_1) b = sq (ada (argG m c) (argA m c)) b := by
  have h := (W15_arr m ρ c 3).trans (ada_lanes (V14 m ρ) c)
  have hs := ada_sq (V14 m ρ) c b
  rw [keep_arg0', keep_arg1] at hs
  exact (lanesum_of h b).trans hs

/-- Still there when it is next read. -/
theorem keep_main_v13_0 : rd (V15 m ρ c main_v13_0 : Vec Ideal S3x4096x2048 .f32) = direction (argG m c) (factor (argL m c)) (argDL m c) (factor (argR m c)) (argDR m c) :=
  (congrArg (fun x : Vec Ideal S3x4096x2048 .f32 => rd x) (W15_of m ρ c main_v13_0 (by decide))).trans (at_main_v13_0 m ρ c)

/-- Still there when it is next read. -/
theorem keep_main_v13_1 (b : Fin 3) : lanesum (V15 m ρ c main_v13_1) b = sq (direction (argG m c) (factor (argL m c)) (argDL m c) (factor (argR m c)) (argDR m c)) b :=
  (congrArg (fun x => lanesum x b) (W15_of m ρ c main_v13_1 (by decide))).trans (at_main_v13_1 m ρ c b)

/-- The first result: the update. -/
theorem at_main_v15 : rd (V16 m ρ c main_v15 : Vec Ideal S3x4096x2048 .f32)
    = update (argG m c) (argA m c) (factor (argL m c)) (argDL m c) (factor (argR m c)) (argDR m c) := by
  have h := rd_of ((W16_arr m ρ c 3).trans (graft_r (V15 m ρ) c))
  rw [keep_main_v13_0] at h
  refine h.trans ?_
  unfold update
  exact congrArg₂ (graft _) (funext fun b => at_main_v14_1 m ρ c b) (funext fun b => keep_main_v13_1 m ρ c b)

/-- The second result: the diagonally preconditioned gradient. -/
theorem keep_main_v14_0 : rd (V16 m ρ c main_v14_0 : Vec Ideal S3x4096x2048 .f32) = ada (argG m c) (argA m c) :=
  (congrArg (fun x : Vec Ideal S3x4096x2048 .f32 => rd x) (W16_of m ρ c main_v14_0 (by decide))).trans (at_main_v14_0 m ρ c)

end Cert.Proof

end
-- ==== Proof.KernelRun.lean ====
/- The kernel's run, read at its two results and its arguments. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel ends with its results at the last boundary's contents and its arguments as launched. -/
theorem kernel_run : θ_run defs (onTc (τ := τ) (main (F := F))) ⟨m, fun _ => 0, ρ⟩ (fun r => ∀ c : Dev nD,
      r.2.mem ((c.tc : Thread nD τ).loc main_v15) = W16 m ρ c (Proc.devRef .tc main_v15)
      ∧ r.2.mem ((c.tc : Thread nD τ).loc main_v14_0) = W16 m ρ c (Proc.devRef .tc main_v14_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => fun c =>
      ⟨h c _ (mem_uc main_v15 (by decide)), h c _ (mem_uc main_v14_0 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c)⟩)

end Cert.Proof

end
-- ==== Proof.Damp.lean ====
/- The small facts the two sides are equal by: the four-bit numbers, the fourth root, the symmetry of a gram matrix. -/
module

public import proofs.«01_k».proof.Proof.Math
public import Idealize.ShloMosaic.Lib.IdealHost
public import Idealize.ShloMosaic.PureOps.Vector
public import Idealize.ShloMosaic.PureOps.Reduce
public import Idealize.ShloMosaic.Lib.ValueIdx

@[expose] public section

noncomputable section

namespace Cert.Proof

open Idealize.ShloMosaic

/-- The exponent of the damping, as the printed word names it. -/
theorem quarter : Ideal.ofBits .f32 0xBE800000#32 = ((-(1 / 4) : ℝ) : EReal) := by
  simp [Ideal.ofBits, Ideal.ieee, -EReal.coe_mul, -EReal.coe_neg]
  norm_num

/-- Of a positive number, the inverse of the root of the root is its power `-1/4`. -/
theorem pow_quarter {x : EReal} (hx : 0 < x) : Ideal.pow x (Ideal.ofBits .f32 0xBE800000#32) = Ideal.rsqrt (Ideal.sqrt x) := by
  rw [quarter]
  induction x with
  | bot => exact absurd hx (not_lt_of_ge bot_le)
  | top =>
    have h : ((-(1 / 4) : ℝ) : EReal) < 0 := by rw [← EReal.coe_zero]; exact EReal.coe_lt_coe_iff.2 (by norm_num)
    rw [Ideal.pow_top, Ideal.sqrt_top, Ideal.rsqrt_top, if_neg h.not_gt, if_neg h.ne]
  | coe r =>
    have hr : 0 < r := EReal.coe_pos.1 hx
    have hs : 0 < Real.sqrt r := Real.sqrt_pos.2 hr
    rw [Ideal.pow_coe_coe, Ideal.sqrt_coe, if_neg (not_lt.2 hr.le), Ideal.rsqrt_coe, if_neg (not_lt.2 hs.le), if_neg hs.ne']
    refine congrArg _ ?_
    show r ^ (-(1 / 4) : ℝ) = _
    rw [Real.sqrt_eq_rpow, Real.sqrt_eq_rpow, ← Real.rpow_mul hr.le, ← Real.rpow_neg hr.le]
    norm_num

/-- The gram matrix of the rows is symmetric. -/
theorem gram_symm {n : ℕ} (v : Arr n n) (b : Fin 3) (i j : Fin n) : gram v b i j = gram v b j i := by
  unfold gram
  have h : (∑ k, v b i k * v b j k) = ∑ k, v b j k * v b i k := Finset.sum_congr rfl fun k _ => mul_comm _ _
  by_cases e : i = j
  · subst e; rfl
  · rw [if_neg e, if_neg (Ne.symm e), h]

/-- A four-bit number sign-extended by subtracting sixteen from eight on. -/
def wrap (n : BitVec 32) : BitVec 32 := Scalar.select (IntOp.cmpi .sge n 8#32) (IntOp.subi n 16#32) n

/-- Of the low four bits, flipping the sign bit and subtracting eight is the same. -/
theorem wrap_low : ∀ x : BitVec 8, wrap (IntOp.andi (x.setWidth 32) 15#32) = lowNib x := by decide +kernel

/-- Of the high four bits too. -/
theorem wrap_high : ∀ x : BitVec 8, wrap (IntOp.shrsi .host (x.setWidth 32) 4#32) = highNib x := by decide +kernel

/-- The host's sum over the rows and the columns of an array, batch entry by batch entry. -/
theorem reduce_rows {m n : ℕ} (x : (⟨3, ![3, m, n]⟩ : Shape).Idx → EReal) (h : Shape.ReducesTo ⟨3, ![3, m, n]⟩ [1, 2] ⟨1, ![3]⟩)
    (hd : ∀ i, (h.drop i 0).val = (i 0).val) (b : Fin 3) :
    Ideal.hostReduceAdd h x 0 (ValueIdx.ix1 b) = ∑ i : Fin m, ∑ j : Fin n, x (ValueIdx.ix3 b i j) := by
  unfold Ideal.hostReduceAdd
  rw [zero_add, ← Fintype.sum_prod_type' (fun (i : Fin m) (j : Fin n) => x (ValueIdx.ix3 b i j))]
  refine Finset.sum_nbij' (fun i => ((i 1, i 2) : Fin m × Fin n)) (fun p => ValueIdx.ix3 b p.1 p.2) (fun _ _ => Finset.mem_univ _) (fun p _ => ?_) (fun i hi => ?_) (fun _ _ => rfl) (fun i hi => ?_)
  · refine Finset.mem_filter.2 ⟨Finset.mem_univ _, funext fun a => ?_⟩
    match a with
    | ⟨0, _⟩ => exact Fin.ext (hd _)
  all_goals
    have e : i 0 = b := Fin.ext ((hd i).symm.trans (congrArg Fin.val (congrFun (Finset.mem_filter.1 hi).2 0)))
    have e' : ValueIdx.ix3 b (i 1) (i 2) = i := by rw [← e]; exact (ValueIdx.eq_ix3 i).symm
  · exact e'
  · exact congrArg x e'.symm

end Cert.Proof

end
-- ==== Proof.RefFactor.lean ====
/- The reference's two factors, decoded and corrected, as the plain functions. -/
module

public import proofs.«01_k».proof.Proof.Plain
public import proofs.«01_k».proof.Proof.Damp
public import proofs.«01_k».proof.Proof.Gen.ReferenceIdeal.Read

@[expose] public section

noncomputable section

namespace Cert.Proof

open Idealize.ShloMosaic Idealize.ShloMosaic.ValueIdx
open Cert.ReferenceIdeal Cert.ReferenceIdeal.Gen Cert.ReferenceIdeal.Read

/-- Two indices of four axes with the same coordinates are the same. -/
theorem ix4_ext {n0 n1 n2 n3 : ℕ} {j : (⟨4, ![n0, n1, n2, n3]⟩ : Shape).Idx} {a : Fin n0} {b : Fin n1} {c : Fin n2} {d : Fin n3}
    (h0 : (j 0).val = a.val) (h1 : (j 1).val = b.val) (h2 : (j 2).val = c.val) (h3 : (j 3).val = d.val) : j = ix4 a b c d := by
  rw [eq_ix4 j]; exact congr (congr (congr (congrArg ix4 (Fin.ext h0)) (Fin.ext h1)) (Fin.ext h2)) (Fin.ext h3)

/-- A bit that is not one is zero. -/
theorem eq_zero_of_ne_one : ∀ {x : BitVec 1}, x ≠ 1#1 → x = 0#1 := by decide

/-! ## The left factor -/

/-- The codes of both halves, stacked. -/
theorem ref_l_code (x2 : (⟨S3x4096x2048, .i8⟩ : BufTy).Contents (Elt Ideal)) (b : Fin 3) (i : Fin 4096) (h : Fin 2) (r : Fin 2048) :
    val_main_v17 (F := Ideal) x2 (ix4 b i h r) = if h = 0 then lowNib (x2 (ix3 b i r)) else highNib (x2 (ix3 b i r)) := by
  unfold val_main_v17
  by_cases e : h = 0
  · subst e
    refine (concatenate_pair_apply_left (t := S3x4096x2x2048) (s₁ := S3x4096x1x2048) (s₂ := S3x4096x1x2048) 2 (val_main_v15 (F := Ideal) x2) (val_main_v16 (F := Ideal) x2) concatenates_S3x4096x1x2048_S3x4096x1x2048_S3x4096x2x2048_d2
      (ix4 b i (0 : Fin 2) r) rfl (ix4 b i (0 : Fin 1) r) (fun a => by
      match a with
      | ⟨0, _⟩ => rfl
      | ⟨1, _⟩ => rfl
      | ⟨2, _⟩ => rfl
      | ⟨3, _⟩ => rfl)).trans ?_
    rw [val_main_v15_apply, if_pos rfl, show idx_main_v15 (ix4 b i (0 : Fin 1) r) = ix3 b i r from ix3_ext rfl rfl rfl]
    exact wrap_low _
  · have eh : h.val = 1 := by have := h.isLt; have : h.val ≠ 0 := fun c => e (Fin.ext c); omega
    refine (concatenate_pair_apply_right (t := S3x4096x2x2048) (s₁ := S3x4096x1x2048) (s₂ := S3x4096x1x2048) 2 (val_main_v15 (F := Ideal) x2) (val_main_v16 (F := Ideal) x2) concatenates_S3x4096x1x2048_S3x4096x1x2048_S3x4096x2x2048_d2
      (ix4 b i h r) rfl rfl (ix4 b i (0 : Fin 1) r) (fun a ha => by
      match a with
      | ⟨0, _⟩ => rfl
      | ⟨1, _⟩ => rfl
      | ⟨2, _⟩ => exact absurd rfl ha
      | ⟨3, _⟩ => rfl) eh.symm).trans ?_
    rw [val_main_v16_apply, if_neg e, show idx_main_v16 (ix4 b i (0 : Fin 1) r) = ix3 b i r from ix3_ext rfl rfl rfl]
    exact wrap_high _

/-- The codes as one array of numbers. -/
theorem ref_l_num (x2 : (⟨S3x4096x2048, .i8⟩ : BufTy).Contents (Elt Ideal)) (b : Fin 3) (i k : Fin 4096) :
    val_main_v19 (F := Ideal) x2 (ix3 b i k) = nib (⟨k.val / 2048, by have := k.isLt; omega⟩ : Fin 2) (x2 (ix3 b i ⟨k.val % 2048, by omega⟩)) := by
  have hb := b.isLt
  have hi := i.isLt
  have hk := k.isLt
  have e : idx_main_v18 (ix3 b i k) = ix4 b i (⟨k.val / 2048, by omega⟩ : Fin 2) (⟨k.val % 2048, by omega⟩ : Fin 2048) := by
    refine ix4_ext ?_ ?_ ?_ ?_
    · show ((b.val * 4096 + i.val) * 4096 + k.val) / 16777216 = b.val; omega
    · show ((b.val * 4096 + i.val) * 4096 + k.val) / 4096 % 4096 = i.val; omega
    · show ((b.val * 4096 + i.val) * 4096 + k.val) / 2048 % 2 = k.val / 2048; omega
    · show ((b.val * 4096 + i.val) * 4096 + k.val) % 2048 = k.val % 2048; omega
  show ((((val_main_v18 (F := Ideal) x2 (ix3 b i k)).toInt : ℝ)) : EReal) = _
  rw [val_main_v18_apply, e, ref_l_code]
  rfl

/-- The decoded factor: the transpose of the rows the kernel stores. -/
theorem ref_l_decoded (x2 : (⟨S3x4096x2048, .i8⟩ : BufTy).Contents (Elt Ideal)) (x3 : (⟨S3x4096x64, .f32⟩ : BufTy).Contents (Elt Ideal)) (b : Fin 3) (i k : Fin 4096) :
    val_main_v25 (F := Ideal) x2 x3 (ix3 b i k) = flat (half := 2048) rfl (decoded (n := 4096) (half := 2048) (g := 64) rfl (rd x2) (rd x3)) b k i := by
  have hb := b.isLt
  have hi := i.isLt
  have hk := k.isLt
  have e : idx_main_v25 (ix3 b i k) = ix4 b i (⟨k.val / 64, by omega⟩ : Fin 64) (⟨k.val % 64, by omega⟩ : Fin 64) := by
    refine ix4_ext ?_ ?_ ?_ ?_
    · show ((b.val * 4096 + i.val) * 4096 + k.val) / 16777216 = b.val; omega
    · show ((b.val * 4096 + i.val) * 4096 + k.val) / 4096 % 4096 = i.val; omega
    · show ((b.val * 4096 + i.val) * 4096 + k.val) / 64 % 64 = k.val / 64; omega
    · show ((b.val * 4096 + i.val) * 4096 + k.val) % 64 = k.val % 64; omega
  have e1 : idx_main_v21 (ix4 b i (⟨k.val / 64, by omega⟩ : Fin 64) (⟨k.val % 64, by omega⟩ : Fin 64)) = ix3 b i k := by
    refine ix3_ext ?_ ?_ ?_
    · show (((b.val * 4096 + i.val) * 64 + k.val / 64) * 64 + k.val % 64) / 16777216 = b.val; omega
    · show (((b.val * 4096 + i.val) * 64 + k.val / 64) * 64 + k.val % 64) / 4096 % 4096 = i.val; omega
    · show (((b.val * 4096 + i.val) * 64 + k.val / 64) * 64 + k.val % 64) % 4096 = k.val; omega
  have e2 : idx_main_v22 (idx_main_v23 (ix4 b i (⟨k.val / 64, by omega⟩ : Fin 64) (⟨k.val % 64, by omega⟩ : Fin 64))) = ix3 b i ⟨k.val / 64, by omega⟩ :=
    ix3_ext rfl rfl rfl
  have e3 : (⟨k.val / 64, by omega⟩ : Fin 64) = grp (half := 2048) (g := 64) rfl ⟨k.val / 2048, by omega⟩ ⟨k.val % 2048, by omega⟩ :=
    Fin.ext (by show k.val / 64 = (k.val / 2048 * 2048 + k.val % 2048) / 64; omega)
  rw [val_main_v25_apply, e, val_main_v24_apply, val_main_v21_apply, e1, val_main_v23_apply, val_main_v22_apply, e2, ref_l_num]
  show _ * x3 (ix3 b i ⟨k.val / 64, by omega⟩) = _
  rw [e3]
  rfl

/-- The gram matrix less the identity. -/
theorem ref_l_gram (x2 : (⟨S3x4096x2048, .i8⟩ : BufTy).Contents (Elt Ideal)) (x3 : (⟨S3x4096x64, .f32⟩ : BufTy).Contents (Elt Ideal)) (u : Arr 4096 4096) (hu : ∀ b i k, val_main_v25 (F := Ideal) x2 x3 (ix3 b i k) = u b k i) (b : Fin 3) (i j : Fin 4096) :
    val_main_v36 (F := Ideal) x2 x3 (ix3 b i j) = gram u b i j := by
  have hi := i.isLt
  have hj := j.isLt
  have hs : val_main_v26 (F := Ideal) x2 x3 (ix3 b i j) = ∑ k, u b i k * u b j k := by
    rw [val_main_v26_apply]
    refine Finset.sum_congr rfl fun k _ => ?_
    rw [show lidx_main_v26 (ix3 b i j) k = ix3 b k i from ix3_ext rfl rfl rfl, show ridx_main_v26 (ix3 b i j) k = ix3 b k j from ix3_ext rfl rfl rfl, hu, hu]
  have he : val_main_v34 (F := Ideal) (ix3 b i j) = (((IntOp.cmpi .eq (BitVec.ofNat 32 i.val) (BitVec.ofNat 32 j.val)).toNat : ℝ) : EReal) := by
    rw [val_main_v34_apply, val_main_v33_apply, val_main_v32_apply, val_main_v31_apply, val_main_v30_apply, val_main_v29_apply, val_main_v27_apply, val_main_v28_apply]
    show (((IntOp.cmpi .eq (BitVec.ofNat 32 i.val + 0#32) (BitVec.ofNat 32 j.val)).toNat : ℝ) : EReal) = _
    rw [BitVec.add_zero]
  show ((val_main_v26 (F := Ideal) x2 x3 (ix3 b i j) : EReal) - (val_main_v34 (F := Ideal) (ix3 b i j) : EReal) : EReal) = _
  rw [hs, he]
  unfold gram
  by_cases e : i = j
  · rw [if_pos e, (WordCmp.cmpi_eq_ofNat_eq_one_iff (by omega) (by omega)).2 (congrArg Fin.val e)]
    norm_num
  · rw [if_neg e, eq_zero_of_ne_one (fun c => e (Fin.ext ((WordCmp.cmpi_eq_ofNat_eq_one_iff (by omega) (by omega)).1 c)))]
    norm_num

/-- The corrected factor. -/
theorem ref_l_factor (x2 : (⟨S3x4096x2048, .i8⟩ : BufTy).Contents (Elt Ideal)) (x3 : (⟨S3x4096x64, .f32⟩ : BufTy).Contents (Elt Ideal)) (u : Arr 4096 4096) (hu : ∀ b i k, val_main_v25 (F := Ideal) x2 x3 (ix3 b i k) = u b k i) (b : Fin 3) (i j : Fin 4096) :
    val_main_v42 (F := Ideal) x2 x3 (ix3 b i j) = factor u b j i := by
  have hs : val_main_v37 (F := Ideal) x2 x3 (ix3 b i j) = ∑ k, gram u b j k * u b k i := by
    rw [val_main_v37_apply]
    refine Finset.sum_congr rfl fun k _ => ?_
    rw [show lidx_main_v37 (ix3 b i j) k = ix3 b i k from ix3_ext rfl rfl rfl, show ridx_main_v37 (ix3 b i j) k = ix3 b k j from ix3_ext rfl rfl rfl,
      hu, ref_l_gram x2 x3 u hu, gram_symm, mul_comm]
  show ((val_main_v25 (F := Ideal) x2 x3 (ix3 b i j) : EReal) - (val_main_v39 (F := Ideal) (ix3 b i j) : EReal) * (val_main_v37 (F := Ideal) x2 x3 (ix3 b i j) : EReal) : EReal) = _
  rw [hu, hs, val_main_v39_apply]
  rfl

/-! ## The right factor -/

/-- The codes of both halves, stacked. -/
theorem ref_r_code (x5 : (⟨S3x2048x1024, .i8⟩ : BufTy).Contents (Elt Ideal)) (b : Fin 3) (i : Fin 2048) (h : Fin 2) (r : Fin 1024) :
    val_main_v64 (F := Ideal) x5 (ix4 b i h r) = if h = 0 then lowNib (x5 (ix3 b i r)) else highNib (x5 (ix3 b i r)) := by
  unfold val_main_v64
  by_cases e : h = 0
  · subst e
    refine (concatenate_pair_apply_left (t := S3x2048x2x1024) (s₁ := S3x2048x1x1024) (s₂ := S3x2048x1x1024) 2 (val_main_v62 (F := Ideal) x5) (val_main_v63 (F := Ideal) x5) concatenates_S3x2048x1x1024_S3x2048x1x1024_S3x2048x2x1024_d2
      (ix4 b i (0 : Fin 2) r) rfl (ix4 b i (0 : Fin 1) r) (fun a => by
      match a with
      | ⟨0, _⟩ => rfl
      | ⟨1, _⟩ => rfl
      | ⟨2, _⟩ => rfl
      | ⟨3, _⟩ => rfl)).trans ?_
    rw [val_main_v62_apply, if_pos rfl, show idx_main_v62 (ix4 b i (0 : Fin 1) r) = ix3 b i r from ix3_ext rfl rfl rfl]
    exact wrap_low _
  · have eh : h.val = 1 := by have := h.isLt; have : h.val ≠ 0 := fun c => e (Fin.ext c); omega
    refine (concatenate_pair_apply_right (t := S3x2048x2x1024) (s₁ := S3x2048x1x1024) (s₂ := S3x2048x1x1024) 2 (val_main_v62 (F := Ideal) x5) (val_main_v63 (F := Ideal) x5) concatenates_S3x2048x1x1024_S3x2048x1x1024_S3x2048x2x1024_d2
      (ix4 b i h r) rfl rfl (ix4 b i (0 : Fin 1) r) (fun a ha => by
      match a with
      | ⟨0, _⟩ => rfl
      | ⟨1, _⟩ => rfl
      | ⟨2, _⟩ => exact absurd rfl ha
      | ⟨3, _⟩ => rfl) eh.symm).trans ?_
    rw [val_main_v63_apply, if_neg e, show idx_main_v63 (ix4 b i (0 : Fin 1) r) = ix3 b i r from ix3_ext rfl rfl rfl]
    exact wrap_high _

/-- The codes as one array of numbers. -/
theorem ref_r_num (x5 : (⟨S3x2048x1024, .i8⟩ : BufTy).Contents (Elt Ideal)) (b : Fin 3) (i k : Fin 2048) :
    val_main_v66 (F := Ideal) x5 (ix3 b i k) = nib (⟨k.val / 1024, by have := k.isLt; omega⟩ : Fin 2) (x5 (ix3 b i ⟨k.val % 1024, by omega⟩)) := by
  have hb := b.isLt
  have hi := i.isLt
  have hk := k.isLt
  have e : idx_main_v65 (ix3 b i k) = ix4 b i (⟨k.val / 1024, by omega⟩ : Fin 2) (⟨k.val % 1024, by omega⟩ : Fin 1024) := by
    refine ix4_ext ?_ ?_ ?_ ?_
    · show ((b.val * 2048 + i.val) * 2048 + k.val) / 4194304 = b.val; omega
    · show ((b.val * 2048 + i.val) * 2048 + k.val) / 2048 % 2048 = i.val; omega
    · show ((b.val * 2048 + i.val) * 2048 + k.val) / 1024 % 2 = k.val / 1024; omega
    · show ((b.val * 2048 + i.val) * 2048 + k.val) % 1024 = k.val % 1024; omega
  show ((((val_main_v65 (F := Ideal) x5 (ix3 b i k)).toInt : ℝ)) : EReal) = _
  rw [val_main_v65_apply, e, ref_r_code]
  rfl

/-- The decoded factor: the transpose of the rows the kernel stores. -/
theorem ref_r_decoded (x5 : (⟨S3x2048x1024, .i8⟩ : BufTy).Contents (Elt Ideal)) (x6 : (⟨S3x2048x32, .f32⟩ : BufTy).Contents (Elt Ideal)) (b : Fin 3) (i k : Fin 2048) :
    val_main_v72 (F := Ideal) x5 x6 (ix3 b i k) = flat (half := 1024) rfl (decoded (n := 2048) (half := 1024) (g := 32) rfl (rd x5) (rd x6)) b k i := by
  have hb := b.isLt
  have hi := i.isLt
  have hk := k.isLt
  have e : idx_main_v72 (ix3 b i k) = ix4 b i (⟨k.val / 64, by omega⟩ : Fin 32) (⟨k.val % 64, by omega⟩ : Fin 64) := by
    refine ix4_ext ?_ ?_ ?_ ?_
    · show ((b.val * 2048 + i.val) * 2048 + k.val) / 4194304 = b.val; omega
    · show ((b.val * 2048 + i.val) * 2048 + k.val) / 2048 % 2048 = i.val; omega
    · show ((b.val * 2048 + i.val) * 2048 + k.val) / 64 % 32 = k.val / 64; omega
    · show ((b.val * 2048 + i.val) * 2048 + k.val) % 64 = k.val % 64; omega
  have e1 : idx_main_v68 (ix4 b i (⟨k.val / 64, by omega⟩ : Fin 32) (⟨k.val % 64, by omega⟩ : Fin 64)) = ix3 b i k := by
    refine ix3_ext ?_ ?_ ?_
    · show (((b.val * 2048 + i.val) * 32 + k.val / 64) * 64 + k.val % 64) / 4194304 = b.val; omega
    · show (((b.val * 2048 + i.val) * 32 + k.val / 64) * 64 + k.val % 64) / 2048 % 2048 = i.val; omega
    · show (((b.val * 2048 + i.val) * 32 + k.val / 64) * 64 + k.val % 64) % 2048 = k.val; omega
  have e2 : idx_main_v69 (idx_main_v70 (ix4 b i (⟨k.val / 64, by omega⟩ : Fin 32) (⟨k.val % 64, by omega⟩ : Fin 64))) = ix3 b i ⟨k.val / 64, by omega⟩ :=
    ix3_ext rfl rfl rfl
  have e3 : (⟨k.val / 64, by omega⟩ : Fin 32) = grp (half := 1024) (g := 32) rfl ⟨k.val / 1024, by omega⟩ ⟨k.val % 1024, by omega⟩ :=
    Fin.ext (by show k.val / 64 = (k.val / 1024 * 1024 + k.val % 1024) / 64; omega)
  rw [val_main_v72_apply, e, val_main_v71_apply, val_main_v68_apply, e1, val_main_v70_apply, val_main_v69_apply, e2, ref_r_num]
  show _ * x6 (ix3 b i ⟨k.val / 64, by omega⟩) = _
  rw [e3]
  rfl

/-- The gram matrix less the identity. -/
theorem ref_r_gram (x5 : (⟨S3x2048x1024, .i8⟩ : BufTy).Contents (Elt Ideal)) (x6 : (⟨S3x2048x32, .f32⟩ : BufTy).Contents (Elt Ideal)) (u : Arr 2048 2048) (hu : ∀ b i k, val_main_v72 (F := Ideal) x5 x6 (ix3 b i k) = u b k i) (b : Fin 3) (i j : Fin 2048) :
    val_main_v83 (F := Ideal) x5 x6 (ix3 b i j) = gram u b i j := by
  have hi := i.isLt
  have hj := j.isLt
  have hs : val_main_v73 (F := Ideal) x5 x6 (ix3 b i j) = ∑ k, u b i k * u b j k := by
    rw [val_main_v73_apply]
    refine Finset.sum_congr rfl fun k _ => ?_
    rw [show lidx_main_v73 (ix3 b i j) k = ix3 b k i from ix3_ext rfl rfl rfl, show ridx_main_v73 (ix3 b i j) k = ix3 b k j from ix3_ext rfl rfl rfl, hu, hu]
  have he : val_main_v81 (F := Ideal) (ix3 b i j) = (((IntOp.cmpi .eq (BitVec.ofNat 32 i.val) (BitVec.ofNat 32 j.val)).toNat : ℝ) : EReal) := by
    rw [val_main_v81_apply, val_main_v80_apply, val_main_v79_apply, val_main_v78_apply, val_main_v77_apply, val_main_v76_apply, val_main_v74_apply, val_main_v75_apply]
    show (((IntOp.cmpi .eq (BitVec.ofNat 32 i.val + 0#32) (BitVec.ofNat 32 j.val)).toNat : ℝ) : EReal) = _
    rw [BitVec.add_zero]
  show ((val_main_v73 (F := Ideal) x5 x6 (ix3 b i j) : EReal) - (val_main_v81 (F := Ideal) (ix3 b i j) : EReal) : EReal) = _
  rw [hs, he]
  unfold gram
  by_cases e : i = j
  · rw [if_pos e, (WordCmp.cmpi_eq_ofNat_eq_one_iff (by omega) (by omega)).2 (congrArg Fin.val e)]
    norm_num
  · rw [if_neg e, eq_zero_of_ne_one (fun c => e (Fin.ext ((WordCmp.cmpi_eq_ofNat_eq_one_iff (by omega) (by omega)).1 c)))]
    norm_num

/-- The corrected factor. -/
theorem ref_r_factor (x5 : (⟨S3x2048x1024, .i8⟩ : BufTy).Contents (Elt Ideal)) (x6 : (⟨S3x2048x32, .f32⟩ : BufTy).Contents (Elt Ideal)) (u : Arr 2048 2048) (hu : ∀ b i k, val_main_v72 (F := Ideal) x5 x6 (ix3 b i k) = u b k i) (b : Fin 3) (i j : Fin 2048) :
    val_main_v89 (F := Ideal) x5 x6 (ix3 b i j) = factor u b j i := by
  have hs : val_main_v84 (F := Ideal) x5 x6 (ix3 b i j) = ∑ k, gram u b j k * u b k i := by
    rw [val_main_v84_apply]
    refine Finset.sum_congr rfl fun k _ => ?_
    rw [show lidx_main_v84 (ix3 b i j) k = ix3 b i k from ix3_ext rfl rfl rfl, show ridx_main_v84 (ix3 b i j) k = ix3 b k j from ix3_ext rfl rfl rfl,
      hu, ref_r_gram x5 x6 u hu, gram_symm, mul_comm]
  show ((val_main_v72 (F := Ideal) x5 x6 (ix3 b i j) : EReal) - (val_main_v86 (F := Ideal) (ix3 b i j) : EReal) * (val_main_v84 (F := Ideal) x5 x6 (ix3 b i j) : EReal) : EReal) = _
  rw [hu, hs, val_main_v86_apply]
  rfl

end Cert.Proof

end
-- ==== Proof.RefUpdate.lean ====
/- The reference's two results as the plain functions. -/
module

public import proofs.«01_k».proof.Proof.RefFactor

@[expose] public section

noncomputable section

namespace Cert.Proof

open Idealize.ShloMosaic Idealize.ShloMosaic.ValueIdx
open Cert.ReferenceIdeal Cert.ReferenceIdeal.Gen Cert.ReferenceIdeal.Read

variable (x0 : (⟨S3x4096x2048, .bf16⟩ : BufTy).Contents (Elt Ideal)) (x1 : (⟨S3x4096x2048, .f32⟩ : BufTy).Contents (Elt Ideal))
  (x2 : (⟨S3x4096x2048, .i8⟩ : BufTy).Contents (Elt Ideal)) (x3 : (⟨S3x4096x64, .f32⟩ : BufTy).Contents (Elt Ideal)) (x4 : (⟨S3x4096, .f32⟩ : BufTy).Contents (Elt Ideal))
  (x5 : (⟨S3x2048x1024, .i8⟩ : BufTy).Contents (Elt Ideal)) (x6 : (⟨S3x2048x32, .f32⟩ : BufTy).Contents (Elt Ideal)) (x7 : (⟨S3x2048, .f32⟩ : BufTy).Contents (Elt Ideal))

/-- A vector of eigenvalues as a column. -/
abbrev col {n : ℕ} (x : (⟨2, ![3, n]⟩ : Shape).Idx → EReal) : Arr n 1 := fun b i _ => x (ix2 b i)

/-- The left damping. -/
theorem ref_damp_l (h4 : ∀ b i, (0 : EReal) < x4 (ix2 b i) + eps) (b : Fin 3) (i : Fin 4096) :
    val_main_v46 (F := Ideal) x4 (ix2 b i) = damp (col x4 b i 0) := by
  rw [val_main_v46_apply, val_main_v45_apply, val_main_v44_apply, val_main_v43_apply]
  exact pow_quarter (h4 b i)

/-- The right damping. -/
theorem ref_damp_r (h7 : ∀ b i, (0 : EReal) < x7 (ix2 b i) + eps) (b : Fin 3) (i : Fin 2048) :
    val_main_v93 (F := Ideal) x7 (ix2 b i) = damp (col x7 b i 0) := by
  rw [val_main_v93_apply, val_main_v92_apply, val_main_v91_apply, val_main_v90_apply]
  exact pow_quarter (h7 b i)

/-- Two indices of two axes with the same coordinates are the same. -/
theorem ix2_ext {n0 n1 : ℕ} {j : (⟨2, ![n0, n1]⟩ : Shape).Idx} {a : Fin n0} {b : Fin n1} (h0 : (j 0).val = a.val) (h1 : (j 1).val = b.val) :
    j = ix2 a b := by
  rw [eq_ix2 j]; exact congr (congrArg ix2 (Fin.ext h0)) (Fin.ext h1)

/-- Turned by the left factor and damped. -/
theorem ref_turn (wl : Arr 4096 4096) (hl : ∀ b i j, val_main_v42 (F := Ideal) x2 x3 (ix3 b i j) = wl b j i)
    (h4 : ∀ b i, (0 : EReal) < x4 (ix2 b i) + eps) (b : Fin 3) (i : Fin 4096) (j : Fin 2048) :
    val_main_v98 (F := Ideal) x0 x2 x3 x4 (ix3 b i j) = turn wl (rd x0) (col x4) b i j := by
  have hs : val_main_v94 (F := Ideal) x0 x2 x3 (ix3 b i j) = ∑ k, wl b i k * x0 (ix3 b k j) := by
    rw [val_main_v94_apply]
    refine Finset.sum_congr rfl fun k _ => ?_
    rw [show lidx_main_v94 (ix3 b i j) k = ix3 b k i from ix3_ext rfl rfl rfl, show ridx_main_v94 (ix3 b i j) k = ix3 b k j from ix3_ext rfl rfl rfl, hl]
  have hd : val_main_v96 (F := Ideal) x4 (ix3 b i j) = damp (col x4 b i 0) := by
    rw [val_main_v96_apply, val_main_v95_apply, show idx_main_v95 (idx_main_v96 (ix3 b i j)) = ix2 b i from ix2_ext rfl rfl, ref_damp_l x4 h4]
  show ((val_main_v94 (F := Ideal) x0 x2 x3 (ix3 b i j) : EReal) * (val_main_v96 (F := Ideal) x4 (ix3 b i j) : EReal) : EReal) = _
  rw [hs, hd]
  rfl

/-- And by the right factor, damped. -/
theorem ref_turnT (t : Arr 4096 2048) (ht : ∀ b i j, val_main_v98 (F := Ideal) x0 x2 x3 x4 (ix3 b i j) = t b i j)
    (wr : Arr 2048 2048) (hr : ∀ b i j, val_main_v89 (F := Ideal) x5 x6 (ix3 b i j) = wr b j i)
    (h7 : ∀ b i, (0 : EReal) < x7 (ix2 b i) + eps) (b : Fin 3) (i : Fin 4096) (j : Fin 2048) :
    val_main_v103 (F := Ideal) x0 x2 x3 x4 x5 x6 x7 (ix3 b i j) = turnT wr t (col x7) b j i := by
  have hs : val_main_v99 (F := Ideal) x0 x2 x3 x4 x5 x6 (ix3 b i j) = ∑ k, wr b j k * t b i k := by
    rw [val_main_v99_apply]
    refine Finset.sum_congr rfl fun k _ => ?_
    rw [show lidx_main_v99 (ix3 b i j) k = ix3 b i k from ix3_ext rfl rfl rfl, show ridx_main_v99 (ix3 b i j) k = ix3 b k j from ix3_ext rfl rfl rfl, ht, hr, mul_comm]
  have hd : val_main_v101 (F := Ideal) x7 (ix3 b i j) = damp (col x7 b j 0) := by
    rw [val_main_v101_apply, val_main_v100_apply, show idx_main_v100 (idx_main_v101 (ix3 b i j)) = ix2 b j from ix2_ext rfl rfl, ref_damp_r x7 h7]
  show ((val_main_v99 (F := Ideal) x0 x2 x3 x4 x5 x6 (ix3 b i j) : EReal) * (val_main_v101 (F := Ideal) x7 (ix3 b i j) : EReal) : EReal) = _
  rw [hs, hd]
  rfl

/-- Turned back by the left factor. -/
theorem ref_back (wl : Arr 4096 4096) (hl : ∀ b i j, val_main_v42 (F := Ideal) x2 x3 (ix3 b i j) = wl b j i)
    (t : Arr 2048 4096) (ht : ∀ b i j, val_main_v103 (F := Ideal) x0 x2 x3 x4 x5 x6 x7 (ix3 b i j) = t b j i) (b : Fin 3) (i : Fin 4096) (j : Fin 2048) :
    val_main_v105 (F := Ideal) x0 x2 x3 x4 x5 x6 x7 (ix3 b i j) = back t wl b i j := by
  show val_main_v104 (F := Ideal) x0 x2 x3 x4 x5 x6 x7 (ix3 b i j) = _
  rw [val_main_v104_apply]
  refine Finset.sum_congr rfl fun k _ => ?_
  rw [show lidx_main_v104 (ix3 b i j) k = ix3 b i k from ix3_ext rfl rfl rfl, show ridx_main_v104 (ix3 b i j) k = ix3 b k j from ix3_ext rfl rfl rfl, ht, hl, mul_comm]

/-- And by the right factor. -/
theorem ref_prec (t : Arr 4096 2048) (ht : ∀ b i j, val_main_v105 (F := Ideal) x0 x2 x3 x4 x5 x6 x7 (ix3 b i j) = t b i j)
    (wr : Arr 2048 2048) (hr : ∀ b i j, val_main_v89 (F := Ideal) x5 x6 (ix3 b i j) = wr b j i) (b : Fin 3) (i : Fin 4096) (j : Fin 2048) :
    val_main_v106 (F := Ideal) x0 x2 x3 x4 x5 x6 x7 (ix3 b i j) = prec t wr b i j := by
  rw [val_main_v106_apply]
  refine Finset.sum_congr rfl fun k _ => ?_
  rw [show lidx_main_v106 (ix3 b i j) k = ix3 b i k from ix3_ext rfl rfl rfl, show ridx_main_v106 (ix3 b i j) k = ix3 b j k from ix3_ext rfl rfl rfl, ht, hr]

/-- The left factor. -/
abbrev refL : Arr 4096 4096 := factor (flat (half := 2048) rfl (decoded (n := 4096) (half := 2048) (g := 64) rfl (rd x2) (rd x3)))
/-- The right factor. -/
abbrev refR : Arr 2048 2048 := factor (flat (half := 1024) rfl (decoded (n := 2048) (half := 1024) (g := 32) rfl (rd x5) (rd x6)))

/-- The preconditioned gradient. -/
theorem ref_direction (h4 : ∀ b i, (0 : EReal) < x4 (ix2 b i) + eps) (h7 : ∀ b i, (0 : EReal) < x7 (ix2 b i) + eps) (b : Fin 3) (i : Fin 4096) (j : Fin 2048) :
    val_main_v106 (F := Ideal) x0 x2 x3 x4 x5 x6 x7 (ix3 b i j) = direction (rd x0) (refL x2 x3) (col x4) (refR x5 x6) (col x7) b i j := by
  have hl := ref_l_factor x2 x3 _ (ref_l_decoded x2 x3)
  have hr := ref_r_factor x5 x6 _ (ref_r_decoded x5 x6)
  have h1 := ref_turn x0 x2 x3 x4 _ hl h4
  have h2 := ref_turnT x0 x2 x3 x4 x5 x6 x7 _ h1 _ hr h7
  have h3 := ref_back x0 x2 x3 x4 x5 x6 x7 _ hl _ h2
  exact ref_prec x0 x2 x3 x4 x5 x6 x7 _ h3 _ hr b i j

/-- The diagonally preconditioned gradient. -/
theorem ref_ada (b : Fin 3) (i : Fin 4096) (j : Fin 2048) : val_main_v111 (F := Ideal) x0 x1 (ix3 b i j) = ada (rd x0) (rd x1) b i j := by
  rw [val_main_v111_apply, val_main_v110_apply, val_main_v109_apply, val_main_v108_apply, val_main_v107_apply]
  rfl

/-- Its norm, squared. -/
theorem ref_sq_ada (b : Fin 3) : val_main_v113 (F := Ideal) x0 x1 (ix1 b) = sq (ada (rd x0) (rd x1)) b := by
  unfold val_main_v113
  rw [hostReduceAdd_apply, val_main_cst_19_apply]
  refine (congrArg (fun z => Ideal.hostReduceAdd _ _ z _) Ideal.ofBits_zero_f32).trans ((reduce_rows _ _ (fun i => Shape.ReducesTo.drop_apply_val_of_eq _ i 0 0) b).trans ?_)
  refine Finset.sum_congr rfl fun i _ => Finset.sum_congr rfl fun j _ => ?_
  rw [val_main_v112_apply, ref_ada]
  rfl

/-- The norm of the preconditioned gradient, squared. -/
theorem ref_sq_direction (p : Arr 4096 2048) (hp : ∀ b i j, val_main_v106 (F := Ideal) x0 x2 x3 x4 x5 x6 x7 (ix3 b i j) = p b i j) (b : Fin 3) :
    val_main_v117 (F := Ideal) x0 x2 x3 x4 x5 x6 x7 (ix1 b) = sq p b := by
  unfold val_main_v117
  rw [hostReduceAdd_apply, val_main_cst_20_apply]
  refine (congrArg (fun z => Ideal.hostReduceAdd _ _ z _) Ideal.ofBits_zero_f32).trans ((reduce_rows _ _ (fun i => Shape.ReducesTo.drop_apply_val_of_eq _ i 0 0) b).trans ?_)
  refine Finset.sum_congr rfl fun i _ => Finset.sum_congr rfl fun j _ => ?_
  rw [val_main_v116_apply, hp]
  rfl

/-- The first result. -/
theorem ref_update (h4 : ∀ b i, (0 : EReal) < x4 (ix2 b i) + eps) (h7 : ∀ b i, (0 : EReal) < x7 (ix2 b i) + eps) :
    rd (val_main_v122 (F := Ideal) x0 x1 x2 x3 x4 x5 x6 x7) = update (rd x0) (rd x1) (refL x2 x3) (col x4) (refR x5 x6) (col x7) := by
  funext b i j
  have hp := ref_direction x0 x2 x3 x4 x5 x6 x7 h4 h7
  have ha := ref_sq_ada x0 x1 b
  have hs := ref_sq_direction x0 x2 x3 x4 x5 x6 x7 _ hp b
  have e : idx_main_v121 (ix3 b i j) = ix3 b (0 : Fin 1) (0 : Fin 1) := ix3_ext rfl rfl rfl
  have e1 : idx_main_v114 (ix3 b (0 : Fin 1) (0 : Fin 1)) = ix1 b := funext fun a => by
    match a with
    | ⟨0, _⟩ => rfl
  have e2 : idx_main_v118 (ix3 b (0 : Fin 1) (0 : Fin 1)) = ix1 b := funext fun a => by
    match a with
    | ⟨0, _⟩ => rfl
  show val_main_v122 (F := Ideal) x0 x1 x2 x3 x4 x5 x6 x7 (ix3 b i j) = _
  rw [val_main_v122_apply, hp, val_main_v121_apply, e, val_main_v120_apply, val_main_v115_apply, val_main_v119_apply, val_main_v114_apply, val_main_v118_apply,
    e1, e2, ha, hs]
  rfl

/-- The second result. -/
theorem ref_second : rd (val_main_v111 (F := Ideal) x0 x1) = ada (rd x0) (rd x1) := funext fun b => funext fun i => funext fun j => ref_ada x0 x1 b i j

end Cert.Proof

end
-- ==== Proof.Algebraic.lean ====
/- The kernel and the reference, from the same arguments, end with the same two results. -/
module

public import proofs.«01_k».proof.Defs
public import proofs.«01_k».proof.Proof.Chain
public import proofs.«01_k».proof.Proof.KernelRun
public import proofs.«01_k».proof.Proof.RefUpdate

@[expose] public section

noncomputable section

namespace Cert.Proof

open Idealize.ShloMosaic Idealize.ShloMosaic.ValueIdx Idealize.ShloMosaic.TcCoe Idealize.SL.Sem

/-- The shapes the precondition's broadcasts need. -/
theorem pre_facts : Cert.Pre_damping_positive.Facts where
  bcast_S_S3x4096 := by decide
  bcast_S_S3x2048 := by decide

/-- The comparison with zero, read back. -/
theorem pos_of_cmp {x : EReal} (h : Ideal.cmp .ogt x (Ideal.ofBits .f32 0x00000000#32) = 1#1) : 0 < x := by
  rw [Ideal.ofBits_zero_f32] at h
  by_contra c
  have e : Ideal.cmp .ogt x 0 = 0#1 := by
    show BitVec.ofBool (decide ((0 : EReal) < x)) = 0#1
    rw [decide_eq_false c]; rfl
  rw [e] at h
  exact absurd h (by decide)

/-- Two arrays of three axes that agree as functions of three indices are the same. -/
theorem rd_inj {n0 n1 n2 : ℕ} {x y : (⟨3, ![n0, n1, n2]⟩ : Shape).Idx → EReal} (h : rd x = rd y) : x = y := funext fun i => by
  rw [eq_ix3 i]; exact congrFun (congrFun (congrFun h _) _) _

variable (m : (ℓ : Loc Cert.KernelIdeal.nD Cert.KernelIdeal.τ Cert.KernelIdeal.sig) → Buf (Elt Ideal) ℓ) (g : Dev Cert.KernelIdeal.nD → PrngReg)

/-- The left eigenvalues, damped, are positive. -/
theorem pre_l (hp : Cert.Pre_KernelIdeal_damping_positive (hPre_damping_positive := pre_facts) m) (c : Dev Cert.KernelIdeal.nD) (b : Fin 3) (i : Fin 4096) :
    (0 : EReal) < (show EReal from (m ((c.tc : Thread Cert.KernelIdeal.nD Cert.KernelIdeal.τ).loc Cert.KernelIdeal.main_arg4) : Vec Ideal Cert.KernelIdeal.S3x4096 .f32) (ix2 b i)) + eps := pos_of_cmp (congrFun (hp c).1 (ix2 b i))

/-- The right eigenvalues, damped, are positive. -/
theorem pre_r (hp : Cert.Pre_KernelIdeal_damping_positive (hPre_damping_positive := pre_facts) m) (c : Dev Cert.KernelIdeal.nD) (b : Fin 3) (i : Fin 2048) :
    (0 : EReal) < (show EReal from (m ((c.tc : Thread Cert.KernelIdeal.nD Cert.KernelIdeal.τ).loc Cert.KernelIdeal.main_arg7) : Vec Ideal Cert.KernelIdeal.S3x2048 .f32) (ix2 b i)) + eps := pos_of_cmp (congrFun (hp c).2 (ix2 b i))

/-- The first results are the same. -/
theorem same_update (hp : Cert.Pre_KernelIdeal_damping_positive (hPre_damping_positive := pre_facts) m) (c : Dev Cert.KernelIdeal.nD) :
    (Cert.ReferenceIdeal.Read.val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) : Vec Ideal Cert.KernelIdeal.S3x4096x2048 .f32)
      = Cert.KernelIdeal.Gen.W16 m g c (Proc.devRef .tc Cert.KernelIdeal.main_v15) :=
  rd_inj ((ref_update _ _ _ _ _ _ _ _ (pre_l m hp c) (pre_r m hp c)).trans (at_main_v15 m g c).symm)

/-- The second results are the same. -/
theorem same_ada (c : Dev Cert.KernelIdeal.nD) :
    (Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) : Vec Ideal Cert.KernelIdeal.S3x4096x2048 .f32)
      = Cert.KernelIdeal.Gen.W16 m g c (Proc.devRef .tc Cert.KernelIdeal.main_v14_0) :=
  rd_inj ((ref_second _ _).trans (keep_main_v14_0 m g c).symm)

/-- The value claim. -/
theorem algebraic : Cert.algebraic_KernelIdeal_ReferenceIdeal_pre_damping_positive (hKernelIdeal := Cert.KernelIdeal.Gen.facts) (hReferenceIdeal := Cert.ReferenceIdeal.Gen.facts)
    (hPre_damping_positive := pre_facts) := fun m g m' g' hp ha =>
  ⟨fun c => Cert.KernelIdeal.Gen.W16 m g c (Proc.devRef .tc Cert.KernelIdeal.main_v15), fun c => Cert.KernelIdeal.Gen.W16 m g c (Proc.devRef .tc Cert.KernelIdeal.main_v14_0),
    kernel_run m g,
    (θ_run Cert.ReferenceIdeal.defs _ _).mono (fun r h c => by
      obtain ⟨h0, h1, h2⟩ := h c
      obtain ⟨a0, a1, a2, a3, a4, a5, a6, a7⟩ := ha c
      refine ⟨h0.trans (Eq.trans ?_ (same_update m g hp c)), h1.trans (Eq.trans ?_ (same_ada m g c)), h2⟩
      · refine (Cert.ReferenceIdeal.Read.val_main_v122_eq _).trans ?_
        rw [← a0, ← a1, ← a2, ← a3, ← a4, ← a5, ← a6, ← a7]
      · refine (Cert.ReferenceIdeal.Read.val_main_v111_eq _).trans ?_
        rw [← a0, ← a1])
    (Cert.ReferenceIdeal.Value.run (F := Ideal) m' g')⟩

end Cert.Proof

end
-- ==== Proof.lean ====
/- The claims, put together: the frames of the kernel, of its idealization and of the reference, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: its run read at the arguments; it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
